-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_inputs [hPre_valid_inputs : Cert.Pre_valid_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_valid_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_inputs [hPre_valid_inputs : Cert.Pre_valid_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_valid_inputs [hKernelIdeal : Cert.KernelIdeal.Facts] [hPre_valid_inputs : Cert.Pre_valid_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_valid_inputs [hReferenceIdeal : Cert.ReferenceIdeal.Facts] [hPre_valid_inputs : Cert.Pre_valid_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_valid_inputs [hKernelIdeal : Cert.KernelIdeal.Facts] [hReferenceIdeal : Cert.ReferenceIdeal.Facts] [hPre_valid_inputs : Cert.Pre_valid_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_valid_inputs : Cert.Pre_valid_inputs.Facts),
    quiescent_Kernel (hKernel := hKernel)
    ∧ quiescent_KernelIdeal (hKernelIdeal := hKernelIdeal)
    ∧ quiescent_KernelIdeal_pre_valid_inputs (hKernelIdeal := hKernelIdeal) (hPre_valid_inputs := hPre_valid_inputs)
    ∧ quiescent_ReferenceIdeal (hReferenceIdeal := hReferenceIdeal)
    ∧ quiescent_ReferenceIdeal_pre_valid_inputs (hReferenceIdeal := hReferenceIdeal) (hPre_valid_inputs := hPre_valid_inputs)
    ∧ preserves_Kernel_KernelIdeal
    ∧ algebraic_KernelIdeal_ReferenceIdeal_pre_valid_inputs (hKernelIdeal := hKernelIdeal) (hReferenceIdeal := hReferenceIdeal) (hPre_valid_inputs := hPre_valid_inputs)
-- ==== Pre_valid_inputs.lean ====
abbrev S16x128x4 : Shape := ⟨3, ![16, 128, 4]⟩
abbrev S16x128 : Shape := ⟨2, ![16, 128]⟩
abbrev S20000x4 : Shape := ⟨2, ![20000, 4]⟩
abbrev S16x128x2 : Shape := ⟨3, ![16, 128, 2]⟩
abbrev S_ : Shape := ⟨0, ![]⟩
abbrev S16x128x1 : Shape := ⟨3, ![16, 128, 1]⟩
abbrev S20000x2 : Shape := ⟨2, ![20000, 2]⟩

class Facts : Prop where
  slices_S16x128x4_S16x128x2_0_0_0 : S16x128x4.Slices ![0, 0, 0] S16x128x2
  slices_S16x128x4_S16x128x2_0_0_2 : S16x128x4.Slices ![0, 0, 2] S16x128x2
  reducesTo_S16x128x2_S_d0_1_2 : S16x128x2.ReducesTo [0, 1, 2] S_
  h_S_ : 0 < S_.numel
  slices_S16x128x4_S16x128x1_0_0_2 : S16x128x4.Slices ![0, 0, 2] S16x128x1
  shapeCasts_S16x128x1_S16x128 : S16x128x1.ShapeCasts S16x128
  bcast_S_S16x128 : S_.BroadcastsInDim S16x128 (![] : Fin 0 → Fin S16x128.rank)
  reducesTo_S16x128_S_d0_1 : S16x128.ReducesTo [0, 1] S_
  slices_S20000x4_S20000x2_0_2 : S20000x4.Slices ![0, 2] S20000x2
  bcast_S_S20000x2 : S_.BroadcastsInDim S20000x2 (![] : Fin 0 → Fin S20000x2.rank)
  reducesTo_S20000x2_S_d0_1 : S20000x2.ReducesTo [0, 1] S_

variable [Facts]

def fn {F : FTy → Type} [FloatOps F] (main_arg0 : FVec F S16x128x4 .f32) (main_arg1 : IVec S16x128 32) (main_arg2 : FVec F S20000x4 .f32) : IVec S_ 1 :=
  let main_v0 : FVec F S16x128x2 .f32 := (extractStridedSlice S16x128x2 ![0, 0, 0] · slices_S16x128x4_S16x128x2_0_0_0) main_arg0
  let main_v1 : FVec F S16x128x2 .f32 := (extractStridedSlice S16x128x2 ![0, 0, 2] · slices_S16x128x4_S16x128x2_0_0_2) main_arg0
  let main_v2 : IVec S16x128x2 1 := cmpf .olt main_v0 main_v1
  let main_c : IVec S_ 1 := constantI S_ 1 1#1
  let main_v3 : IVec S_ 1 := (fun x v => Host.reduce IntOp.andi x v reducesTo_S16x128x2_S_d0_1_2 h_S_) main_v2 main_c
  let main_v4 : FVec F S16x128x1 .f32 := (extractStridedSlice S16x128x1 ![0, 0, 2] · slices_S16x128x4_S16x128x1_0_0_2) main_arg0
  let main_v5 : FVec F S16x128 .f32 := shapeCast S16x128 main_v4 shapeCasts_S16x128x1_S16x128
  let main_cst : FVec F S_ .f32 := constant S_ .f32 0x3F800000#32
  let main_v6 : FVec F S16x128 .f32 := broadcastInDim S16x128 ![] bcast_S_S16x128 main_cst
  let main_v7 : IVec S16x128 1 := cmpf .ole main_v5 main_v6
  let main_c_0 : IVec S_ 1 := constantI S_ 1 1#1
  let main_v8 : IVec S_ 1 := (fun x v => Host.reduce IntOp.andi x v reducesTo_S16x128_S_d0_1 h_S_) main_v7 main_c_0
  let main_v9 : IVec S_ 1 := andi main_v3 main_v8
  let main_v10 : FVec F S20000x2 .f32 := (extractStridedSlice S20000x2 ![0, 2] · slices_S20000x4_S20000x2_0_2) main_arg2
  let main_cst_1 : FVec F S_ .f32 := constant S_ .f32 0x00000000#32
  let main_v11 : FVec F S20000x2 .f32 := broadcastInDim S20000x2 ![] bcast_S_S20000x2 main_cst_1
  let main_v12 : IVec S20000x2 1 := cmpf .oge main_v10 main_v11
  let main_c_2 : IVec S_ 1 := constantI S_ 1 1#1
  let main_v13 : IVec S_ 1 := (fun x v => Host.reduce IntOp.andi x v reducesTo_S20000x2_S_d0_1 h_S_) main_v12 main_c_2
  let main_v14 : IVec S_ 1 := andi main_v9 main_v13
  main_v14
-- ==== Kernel.lean ====
abbrev S16x128x4 : Shape := ⟨3, ![16, 128, 4]⟩
abbrev S16x128 : Shape := ⟨2, ![16, 128]⟩
abbrev S20000x4 : Shape := ⟨2, ![20000, 4]⟩
abbrev S4 : Shape := ⟨1, ![4]⟩
abbrev S352x4 : Shape := ⟨2, ![352, 4]⟩
abbrev S20352x4 : Shape := ⟨2, ![20352, 4]⟩
abbrev S4x20352 : Shape := ⟨2, ![4, 20352]⟩
abbrev S16x4x128 : Shape := ⟨3, ![16, 4, 128]⟩
abbrev S16x1x128 : Shape := ⟨3, ![16, 1, 128]⟩
abbrev S16x1x20352 : Shape := ⟨3, ![16, 1, 20352]⟩
abbrev S16x3x128x1 : Shape := ⟨4, ![16, 3, 128, 1]⟩
abbrev S4x6784 : Shape := ⟨2, ![4, 6784]⟩
abbrev S1x128x4 : Shape := ⟨3, ![1, 128, 4]⟩
abbrev S1x1x6784 : Shape := ⟨3, ![1, 1, 6784]⟩
abbrev S1x1x128x1 : Shape := ⟨4, ![1, 1, 128, 1]⟩
abbrev S1x6784 : Shape := ⟨2, ![1, 6784]⟩
abbrev S128x4 : Shape := ⟨2, ![128, 4]⟩
abbrev S128x1 : Shape := ⟨2, ![128, 1]⟩
abbrev S128x6784 : Shape := ⟨2, ![128, 6784]⟩
abbrev S6784 : Shape := ⟨1, ![6784]⟩
abbrev S128 : Shape := ⟨1, ![128]⟩
abbrev S16x20000x128 : Shape := ⟨3, ![16, 20000, 128]⟩
abbrev S16x4x20000 : Shape := ⟨3, ![16, 4, 20000]⟩
abbrev S16x1x20000 : Shape := ⟨3, ![16, 1, 20000]⟩
abbrev S1x4x128 : Shape := ⟨3, ![1, 4, 128]⟩
abbrev S1x1x128 : Shape := ⟨3, ![1, 1, 128]⟩
abbrev S1x3x128x1 : Shape := ⟨4, ![1, 3, 128, 1]⟩
abbrev S1x6784x128 : Shape := ⟨3, ![1, 6784, 128]⟩
abbrev S1x4x6784 : Shape := ⟨3, ![1, 4, 6784]⟩
abbrev S1x128x1 : Shape := ⟨3, ![1, 128, 1]⟩
abbrev S1 : Shape := ⟨1, ![1]⟩
abbrev S1x1x1 : Shape := ⟨3, ![1, 1, 1]⟩
abbrev S4x128 : Shape := ⟨2, ![4, 128]⟩
abbrev S1x128 : Shape := ⟨2, ![1, 128]⟩
abbrev S5x128 : Shape := ⟨2, ![5, 128]⟩
abbrev S5x6784 : Shape := ⟨2, ![5, 6784]⟩
abbrev S128x128 : Shape := ⟨2, ![128, 128]⟩
abbrev S129x128 : Shape := ⟨2, ![129, 128]⟩
abbrev S129x6784 : Shape := ⟨2, ![129, 6784]⟩
abbrev S6784x128 : Shape := ⟨2, ![6784, 128]⟩
abbrev S16x20000x81 : Shape := ⟨3, ![16, 20000, 81]⟩
abbrev S16x20000x4 : Shape := ⟨3, ![16, 20000, 4]⟩
abbrev S16x20000 : Shape := ⟨2, ![16, 20000]⟩

abbrev nBuf : Space → Nat
  | .hbm => 20
  | .vmem => 32
  | .smem => 0
  | _ => 0

abbrev bufTy : (tb : Table) → Fin (tcTables nBuf tb) → BufTy
  | .hbm, ⟨0, _⟩ => ⟨S16x128x4, .f32⟩
  | .hbm, ⟨1, _⟩ => ⟨S16x128, .i32⟩
  | .hbm, ⟨2, _⟩ => ⟨S20000x4, .f32⟩
  | .hbm, ⟨3, _⟩ => ⟨S4, .f32⟩
  | .hbm, ⟨4, _⟩ => ⟨S352x4, .f32⟩
  | .hbm, ⟨5, _⟩ => ⟨S20352x4, .f32⟩
  | .hbm, ⟨6, _⟩ => ⟨S4x20352, .f32⟩
  | .hbm, ⟨7, _⟩ => ⟨S16x4x128, .f32⟩
  | .hbm, ⟨8, _⟩ => ⟨S16x128, .f32⟩
  | .hbm, ⟨9, _⟩ => ⟨S16x1x128, .f32⟩
  | .hbm, ⟨10, _⟩ => ⟨S16x1x20352, .f32⟩
  | .hbm, ⟨11, _⟩ => ⟨S16x1x20352, .i32⟩
  | .hbm, ⟨12, _⟩ => ⟨S16x3x128x1, .f32⟩
  | .hbm, ⟨13, _⟩ => ⟨S16x3x128x1, .i32⟩
  | .hbm, ⟨14, _⟩ => ⟨S16x20000x128, .f32⟩
  | .hbm, ⟨15, _⟩ => ⟨S16x4x20000, .f32⟩
  | .hbm, ⟨16, _⟩ => ⟨S16x1x20000, .f32⟩
  | .hbm, ⟨17, _⟩ => ⟨S16x20000x81, .f32⟩
  | .hbm, ⟨18, _⟩ => ⟨S16x20000x4, .f32⟩
  | .hbm, ⟨19, _⟩ => ⟨S16x20000, .f32⟩
  | .local _ .vmem, ⟨0, _⟩ => ⟨S4x6784, .f32⟩
  | .local _ .vmem, ⟨1, _⟩ => ⟨S4x6784, .f32⟩
  | .local _ .vmem, ⟨2, _⟩ => ⟨S1x128x4, .f32⟩
  | .local _ .vmem, ⟨3, _⟩ => ⟨S1x128x4, .f32⟩
  | .local _ .vmem, ⟨4, _⟩ => ⟨S1x1x6784, .f32⟩
  | .local _ .vmem, ⟨5, _⟩ => ⟨S1x1x6784, .f32⟩
  | .local _ .vmem, ⟨6, _⟩ => ⟨S1x1x6784, .i32⟩
  | .local _ .vmem, ⟨7, _⟩ => ⟨S1x1x6784, .i32⟩
  | .local _ .vmem, ⟨8, _⟩ => ⟨S1x1x128x1, .f32⟩
  | .local _ .vmem, ⟨9, _⟩ => ⟨S1x1x128x1, .f32⟩
  | .local _ .vmem, ⟨10, _⟩ => ⟨S1x1x128x1, .i32⟩
  | .local _ .vmem, ⟨11, _⟩ => ⟨S1x1x128x1, .i32⟩
  | .local _ .vmem, ⟨12, _⟩ => ⟨S4x6784, .f32⟩
  | .local _ .vmem, ⟨13, _⟩ => ⟨S4x6784, .f32⟩
  | .local _ .vmem, ⟨14, _⟩ => ⟨S1x4x128, .f32⟩
  | .local _ .vmem, ⟨15, _⟩ => ⟨S1x4x128, .f32⟩
  | .local _ .vmem, ⟨16, _⟩ => ⟨S1x1x128, .f32⟩
  | .local _ .vmem, ⟨17, _⟩ => ⟨S1x1x128, .f32⟩
  | .local _ .vmem, ⟨18, _⟩ => ⟨S1x1x6784, .f32⟩
  | .local _ .vmem, ⟨19, _⟩ => ⟨S1x1x6784, .f32⟩
  | .local _ .vmem, ⟨20, _⟩ => ⟨S1x1x6784, .i32⟩
  | .local _ .vmem, ⟨21, _⟩ => ⟨S1x1x6784, .i32⟩
  | .local _ .vmem, ⟨22, _⟩ => ⟨S1x3x128x1, .f32⟩
  | .local _ .vmem, ⟨23, _⟩ => ⟨S1x3x128x1, .f32⟩
  | .local _ .vmem, ⟨24, _⟩ => ⟨S1x3x128x1, .i32⟩
  | .local _ .vmem, ⟨25, _⟩ => ⟨S1x3x128x1, .i32⟩
  | .local _ .vmem, ⟨26, _⟩ => ⟨S1x6784x128, .f32⟩
  | .local _ .vmem, ⟨27, _⟩ => ⟨S1x6784x128, .f32⟩
  | .local _ .vmem, ⟨28, _⟩ => ⟨S1x4x6784, .f32⟩
  | .local _ .vmem, ⟨29, _⟩ => ⟨S1x4x6784, .f32⟩
  | .local _ .vmem, ⟨30, _⟩ => ⟨S1x1x6784, .f32⟩
  | .local _ .vmem, ⟨31, _⟩ => ⟨S1x1x6784, .f32⟩
  | _, _ => ⟨S16x128x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x6784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x6784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6784 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![16, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S4x6784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x4x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x6784 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x6784 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x3x128x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x3x128x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x6784x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x4x6784 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x6784 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S16x128x4 : Shape := ⟨3, ![16, 128, 4]⟩
abbrev S16x128 : Shape := ⟨2, ![16, 128]⟩
abbrev S20000x4 : Shape := ⟨2, ![20000, 4]⟩
abbrev S20000x2 : Shape := ⟨2, ![20000, 2]⟩
abbrev S_ : Shape := ⟨0, ![]⟩
abbrev S20000x1x2 : Shape := ⟨3, ![20000, 1, 2]⟩
abbrev S16x128x2 : Shape := ⟨3, ![16, 128, 2]⟩
abbrev S16x1x128x2 : Shape := ⟨4, ![16, 1, 128, 2]⟩
abbrev S1x20000x1x2 : Shape := ⟨4, ![1, 20000, 1, 2]⟩
abbrev S16x20000x128x2 : Shape := ⟨4, ![16, 20000, 128, 2]⟩
abbrev S16x20000x128x1 : Shape := ⟨4, ![16, 20000, 128, 1]⟩
abbrev S16x20000x128 : Shape := ⟨3, ![16, 20000, 128]⟩
abbrev S20000x1 : Shape := ⟨2, ![20000, 1]⟩
abbrev S20000 : Shape := ⟨1, ![20000]⟩
abbrev S16x128x1 : Shape := ⟨3, ![16, 128, 1]⟩
abbrev S16x1x128 : Shape := ⟨3, ![16, 1, 128]⟩
abbrev S1x20000x1 : Shape := ⟨3, ![1, 20000, 1]⟩
abbrev S16x20000 : Shape := ⟨2, ![16, 20000]⟩
abbrev S20000x81 : Shape := ⟨2, ![20000, 81]⟩
abbrev S16x20000x1 : Shape := ⟨3, ![16, 20000, 1]⟩
abbrev S16x20000x81 : Shape := ⟨3, ![16, 20000, 81]⟩
abbrev S16 : Shape := ⟨1, ![16]⟩
abbrev S1x81 : Shape := ⟨2, ![1, 81]⟩
abbrev S1x1x81 : Shape := ⟨3, ![1, 1, 81]⟩
abbrev S16x20000x4 : Shape := ⟨3, ![16, 20000, 4]⟩
abbrev S16x20000x2 : Shape := ⟨3, ![16, 20000, 2]⟩
abbrev S1x20000x2 : Shape := ⟨3, ![1, 20000, 2]⟩

abbrev nBuf : Space → Nat
  | .hbm => 191
  | .vmem => 0
  | .smem => 0
  | _ => 0

abbrev hbmTy0_0 (i : Nat) : BufTy := match i % 128 with
  | 0 => ⟨S16x128x4, .f32⟩
  | 1 => ⟨S16x128, .i32⟩
  | 2 => ⟨S20000x4, .f32⟩
  | 3 => ⟨S20000x2, .f32⟩
  | 4 => ⟨S20000x2, .f32⟩
  | 5 => ⟨S_, .f32⟩
  | 6 => ⟨S20000x2, .f32⟩
  | 7 => ⟨S20000x2, .f32⟩
  | 8 => ⟨S20000x2, .f32⟩
  | 9 => ⟨S20000x2, .f32⟩
  | 10 => ⟨S20000x2, .f32⟩
  | 11 => ⟨S_, .f32⟩
  | 12 => ⟨S20000x2, .f32⟩
  | 13 => ⟨S20000x2, .f32⟩
  | 14 => ⟨S20000x2, .f32⟩
  | 15 => ⟨S20000x4, .f32⟩
  | 16 => ⟨S20000x2, .f32⟩
  | 17 => ⟨S20000x1x2, .f32⟩
  | 18 => ⟨S16x128x2, .f32⟩
  | 19 => ⟨S16x1x128x2, .f32⟩
  | 20 => ⟨S1x20000x1x2, .f32⟩
  | 21 => ⟨S16x20000x128x2, .f32⟩
  | 22 => ⟨S16x20000x128x2, .f32⟩
  | 23 => ⟨S16x20000x128x2, .f32⟩
  | 24 => ⟨S20000x2, .f32⟩
  | 25 => ⟨S20000x1x2, .f32⟩
  | 26 => ⟨S16x128x2, .f32⟩
  | 27 => ⟨S16x1x128x2, .f32⟩
  | 28 => ⟨S1x20000x1x2, .f32⟩
  | 29 => ⟨S16x20000x128x2, .f32⟩
  | 30 => ⟨S16x20000x128x2, .f32⟩
  | 31 => ⟨S16x20000x128x2, .f32⟩
  | 32 => ⟨S16x20000x128x2, .f32⟩
  | 33 => ⟨S_, .f32⟩
  | 34 => ⟨S_, .f32⟩
  | 35 => ⟨S16x20000x128x2, .f32⟩
  | 36 => ⟨S16x20000x128x2, .f32⟩
  | 37 => ⟨S16x20000x128x1, .f32⟩
  | 38 => ⟨S16x20000x128, .f32⟩
  | 39 => ⟨S16x20000x128x1, .f32⟩
  | 40 => ⟨S16x20000x128, .f32⟩
  | 41 => ⟨S16x20000x128, .f32⟩
  | 42 => ⟨S20000x1, .f32⟩
  | 43 => ⟨S20000, .f32⟩
  | 44 => ⟨S20000x1, .f32⟩
  | 45 => ⟨S20000, .f32⟩
  | 46 => ⟨S20000, .f32⟩
  | 47 => ⟨S20000x1, .f32⟩
  | 48 => ⟨S20000, .f32⟩
  | 49 => ⟨S20000x1, .f32⟩
  | 50 => ⟨S20000, .f32⟩
  | 51 => ⟨S20000, .f32⟩
  | 52 => ⟨S20000, .f32⟩
  | 53 => ⟨S16x128x1, .f32⟩
  | 54 => ⟨S16x128, .f32⟩
  | 55 => ⟨S16x128x1, .f32⟩
  | 56 => ⟨S16x128, .f32⟩
  | 57 => ⟨S16x128, .f32⟩
  | 58 => ⟨S16x128x1, .f32⟩
  | 59 => ⟨S16x128, .f32⟩
  | 60 => ⟨S16x128x1, .f32⟩
  | 61 => ⟨S16x128, .f32⟩
  | 62 => ⟨S16x128, .f32⟩
  | 63 => ⟨S16x128, .f32⟩
  | 64 => ⟨S20000x1, .f32⟩
  | 65 => ⟨S16x1x128, .f32⟩
  | 66 => ⟨S1x20000x1, .f32⟩
  | 67 => ⟨S16x20000x128, .f32⟩
  | 68 => ⟨S16x20000x128, .f32⟩
  | 69 => ⟨S16x20000x128, .f32⟩
  | 70 => ⟨S16x20000x128, .f32⟩
  | 71 => ⟨S16x20000x128, .f32⟩
  | 72 => ⟨S_, .f32⟩
  | 73 => ⟨S16x20000, .f32⟩
  | 74 => ⟨S16x20000x128, .i32⟩
  | 75 => ⟨S_, .f32⟩
  | 76 => ⟨S_, .i32⟩
  | 77 => ⟨S16x20000, .f32⟩
  | 78 => ⟨S16x20000, .i32⟩
  | 79 => ⟨S_, .f32⟩
  | 80 => ⟨S20000x81, .f32⟩
  | 81 => ⟨S20000x81, .f32⟩
  | 82 => ⟨S_, .f32⟩
  | 83 => ⟨S20000, .f32⟩
  | 84 => ⟨S20000, .f32⟩
  | 85 => ⟨S_, .f32⟩
  | 86 => ⟨S16x20000, .f32⟩
  | 87 => ⟨S16x20000, .i1⟩
  | 88 => ⟨S16x20000x1, .i1⟩
  | 89 => ⟨S_, .f32⟩
  | 90 => ⟨S_, .f32⟩
  | 91 => ⟨S16x20000x81, .i1⟩
  | 92 => ⟨S20000x81, .f32⟩
  | 93 => ⟨S16x20000x81, .f32⟩
  | 94 => ⟨S16x20000x81, .f32⟩
  | 95 => ⟨S16x20000x81, .f32⟩
  | 96 => ⟨S_, .f32⟩
  | 97 => ⟨S_, .f32⟩
  | 98 => ⟨S20000, .f32⟩
  | 99 => ⟨S16x20000, .f32⟩
  | 100 => ⟨S16x20000, .f32⟩
  | 101 => ⟨S16x20000, .f32⟩
  | 102 => ⟨S_, .f32⟩
  | 103 => ⟨S16x20000, .f32⟩
  | 104 => ⟨S16x20000, .i1⟩
  | 105 => ⟨S16x20000x128, .i32⟩
  | 106 => ⟨S_, .f32⟩
  | 107 => ⟨S_, .i32⟩
  | 108 => ⟨S16x128, .f32⟩
  | 109 => ⟨S16x128, .i32⟩
  | 110 => ⟨S20000, .i32⟩
  | 111 => ⟨S20000x1, .i32⟩
  | 112 => ⟨S16x1x128, .i32⟩
  | 113 => ⟨S1x20000x1, .i32⟩
  | 114 => ⟨S16x20000x128, .i32⟩
  | 115 => ⟨S16x20000x128, .i32⟩
  | 116 => ⟨S16x20000x128, .i1⟩
  | 117 => ⟨S_, .i1⟩
  | 118 => ⟨S16x20000, .i1⟩
  | 119 => ⟨S_, .i1⟩
  | 120 => ⟨S16, .i1⟩
  | 121 => ⟨S16x20000, .i1⟩
  | 122 => ⟨S16x20000, .i1⟩
  | 123 => ⟨S_, .i32⟩
  | 124 => ⟨S16x20000, .i32⟩
  | 125 => ⟨S16x20000, .i1⟩
  | 126 => ⟨S_, .i32⟩
  | 127 => ⟨S16x20000, .i32⟩
  | _ => ⟨S16x128x4, .f32⟩

abbrev hbmTy0_1 (i : Nat) : BufTy := match i % 128 with
  | 0 => ⟨S16x20000, .i32⟩
  | 1 => ⟨S16x20000, .i32⟩
  | 2 => ⟨S16x20000x1, .i32⟩
  | 3 => ⟨S16x20000, .i32⟩
  | 4 => ⟨S_, .i32⟩
  | 5 => ⟨S16x20000, .i32⟩
  | 6 => ⟨S16x20000, .i32⟩
  | 7 => ⟨S16x20000x1, .i32⟩
  | 8 => ⟨S1x81, .i32⟩
  | 9 => ⟨S1x1x81, .i32⟩
  | 10 => ⟨S16x20000x81, .i32⟩
  | 11 => ⟨S16x20000x81, .i32⟩
  | 12 => ⟨S16x20000x81, .i1⟩
  | 13 => ⟨S16x20000x81, .f32⟩
  | 14 => ⟨S16x20000x1, .i1⟩
  | 15 => ⟨S16x20000x81, .i1⟩
  | 16 => ⟨S16x20000x81, .f32⟩
  | 17 => ⟨S_, .f32⟩
  | 18 => ⟨S_, .f32⟩
  | 19 => ⟨S20000, .f32⟩
  | 20 => ⟨S16x20000, .f32⟩
  | 21 => ⟨S16x20000, .f32⟩
  | 22 => ⟨S_, .i32⟩
  | 23 => ⟨S16x20000, .i32⟩
  | 24 => ⟨S16x20000, .i1⟩
  | 25 => ⟨S_, .i32⟩
  | 26 => ⟨S16x20000, .i32⟩
  | 27 => ⟨S16x20000, .i32⟩
  | 28 => ⟨S16x20000, .i32⟩
  | 29 => ⟨S16x20000x1, .i32⟩
  | 30 => ⟨S16x20000x4, .f32⟩
  | 31 => ⟨S16x20000x2, .f32⟩
  | 32 => ⟨S16x20000x2, .f32⟩
  | 33 => ⟨S16x20000x2, .f32⟩
  | 34 => ⟨S_, .f32⟩
  | 35 => ⟨S16x20000x2, .f32⟩
  | 36 => ⟨S16x20000x2, .f32⟩
  | 37 => ⟨S16x20000x2, .f32⟩
  | 38 => ⟨S16x20000x2, .f32⟩
  | 39 => ⟨S16x20000x2, .f32⟩
  | 40 => ⟨S16x20000x4, .f32⟩
  | 41 => ⟨S16x20000x2, .f32⟩
  | 42 => ⟨S20000x2, .f32⟩
  | 43 => ⟨S1x20000x2, .f32⟩
  | 44 => ⟨S16x20000x2, .f32⟩
  | 45 => ⟨S16x20000x2, .f32⟩
  | 46 => ⟨S20000x2, .f32⟩
  | 47 => ⟨S_, .f32⟩
  | 48 => ⟨S20000x2, .f32⟩
  | 49 => ⟨S20000x2, .f32⟩
  | 50 => ⟨S1x20000x2, .f32⟩
  | 51 => ⟨S16x20000x2, .f32⟩
  | 52 => ⟨S16x20000x2, .f32⟩
  | 53 => ⟨S16x20000x2, .f32⟩
  | 54 => ⟨S20000x2, .f32⟩
  | 55 => ⟨S1x20000x2, .f32⟩
  | 56 => ⟨S16x20000x2, .f32⟩
  | 57 => ⟨S16x20000x2, .f32⟩
  | 58 => ⟨S16x20000x2, .f32⟩
  | 59 => ⟨S_, .f32⟩
  | 60 => ⟨S16x20000x2, .f32⟩
  | 61 => ⟨S16x20000x2, .f32⟩
  | 62 => ⟨S16x20000x4, .f32⟩
  | _ => ⟨S16x128x4, .f32⟩

abbrev hbmTy (i : Nat) : BufTy := match i / 128 with
  | 0 => hbmTy0_0 i
  | 1 => hbmTy0_1 i
  | _ => ⟨S16x128x4, .f32⟩

abbrev bufTy : (tb : Table) → Fin (tcTables nBuf tb) → BufTy
  | .hbm, ⟨i, _⟩ => hbmTy i
  | _, _ => ⟨S16x128x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_2 : Ref sig .tc := ⟨.hbm, 72, rfl⟩
abbrev main_v64 : Ref sig .tc := ⟨.hbm, 73, rfl⟩
abbrev main_call1_v0 : Ref sig .tc := ⟨.hbm, 74, rfl⟩
abbrev main_call1_cst : Ref sig .tc := ⟨.hbm, 75, rfl⟩
abbrev main_call1_c : Ref sig .tc := ⟨.hbm, 76, rfl⟩
abbrev main_call1_v1_0 : Ref sig .tc := ⟨.hbm, 77, rfl⟩
abbrev main_v65 : Ref sig .tc := ⟨.hbm, 78, rfl⟩
abbrev main_cst_3 : Ref sig .tc := ⟨.hbm, 79, rfl⟩
abbrev main_v66 : Ref sig .tc := ⟨.hbm, 80, rfl⟩
abbrev main_v67 : Ref sig .tc := ⟨.hbm, 81, rfl⟩
abbrev main_cst_4 : Ref sig .tc := ⟨.hbm, 82, rfl⟩
abbrev main_v68 : Ref sig .tc := ⟨.hbm, 83, rfl⟩
abbrev main_v69 : Ref sig .tc := ⟨.hbm, 84, rfl⟩
abbrev main_cst_5 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v73 : Ref sig .tc := ⟨.hbm, 95, rfl⟩
abbrev main_cst_7 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_v74 : Ref sig .tc := ⟨.hbm, 101, rfl⟩
abbrev main_cst_8 : Ref sig .tc := ⟨.hbm, 102, rfl⟩
abbrev main_v75 : Ref sig .tc := ⟨.hbm, 103, rfl⟩
abbrev main_v76 : Ref sig .tc := ⟨.hbm, 104, rfl⟩
abbrev main_call4_v0 : Ref sig .tc := ⟨.hbm, 105, rfl⟩
abbrev main_call4_cst : Ref sig .tc := ⟨.hbm, 106, rfl⟩
abbrev main_call4_c : Ref sig .tc := ⟨.hbm, 107, rfl⟩
abbrev main_call4_v1_0 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c : Ref sig .tc := ⟨.hbm, 117, rfl⟩
abbrev main_v85 : Ref sig .tc := ⟨.hbm, 118, rfl⟩
abbrev main_c_9 : Ref sig .tc := ⟨.hbm, 119, rfl⟩
abbrev main_v86 : Ref sig .tc := ⟨.hbm, 120, rfl⟩
abbrev main_call5_v0 : Ref sig .tc := ⟨.hbm, 121, rfl⟩
abbrev main_v87 : Ref sig .tc := ⟨.hbm, 122, rfl⟩
abbrev main_c_10 : Ref sig .tc := ⟨.hbm, 123, rfl⟩
abbrev main_v88 : Ref sig .tc := ⟨.hbm, 124, rfl⟩
abbrev main_v89 : Ref sig .tc := ⟨.hbm, 125, rfl⟩
abbrev main_c_11 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_12 : Ref sig .tc := ⟨.hbm, 132, rfl⟩
abbrev main_v95 : Ref sig .tc := ⟨.hbm, 133, rfl⟩
abbrev main_v96 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_v97 : Ref sig .tc := ⟨.hbm, 141, rfl⟩
abbrev main_v98 : Ref sig .tc := ⟨.hbm, 142, rfl⟩
abbrev main_call7_v0 : Ref sig .tc := ⟨.hbm, 143, rfl⟩
abbrev main_v99 : Ref sig .tc := ⟨.hbm, 144, rfl⟩
abbrev main_cst_13 : Ref sig .tc := ⟨.hbm, 145, rfl⟩
abbrev main_call8_v0 : Ref sig .tc := ⟨.hbm, 146, rfl⟩
abbrev main_call8_v1 : Ref sig .tc := ⟨.hbm, 147, rfl⟩
abbrev main_call8_v2 : Ref sig .tc := ⟨.hbm, 148, rfl⟩
abbrev main_v100 : Ref sig .tc := ⟨.hbm, 149, rfl⟩
abbrev main_c_14 : Ref sig .tc := ⟨.hbm, 150, rfl⟩
abbrev main_v101 : Ref sig .tc := ⟨.hbm, 151, rfl⟩
abbrev main_v102 : Ref sig .tc := ⟨.hbm, 152, rfl⟩
abbrev main_c_15 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_16 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_17 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_18 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩

abbrev nD : Nat := 1
abbrev τ : Topo := Topo.v7x

variable {F : FTy → Type} [FloatOps F]
-- ==== Proof.Spec.lean ====
module

public import Idealize.ShloMosaic.PureOps.Ideal

/-! The mathematics both programs compute, over extended reals. -/

@[expose] public section
noncomputable section

namespace Cert.Ssd

open Idealize.ShloMosaic

/-- The number two, as both programs write it. -/
abbrev two : EReal := Ideal.ofBits FTy.f32 1073741824#32

/-- The length of the intersection of an anchor's side (centre `c`, length `w`) with a box's side from `p` to `q`. -/
def side (c w p q : EReal) : EReal :=
  max 0 (min (c + Ideal.div w two) q - max (c - Ideal.div w two) p)

/-- An anchor's area, from its corners. -/
def areaA (a : Fin 4 → EReal) : EReal :=
  (a 0 + Ideal.div (a 2) two - (a 0 - Ideal.div (a 2) two)) * (a 1 + Ideal.div (a 3) two - (a 1 - Ideal.div (a 3) two))

/-- A box's area. -/
def areaB (b : Fin 4 → EReal) : EReal := (b 2 - b 0) * (b 3 - b 1)

/-- The area of the intersection of the anchor `a` (centre and size) with the box `b` (corners). -/
def inter (a b : Fin 4 → EReal) : EReal := side (a 0) (a 2) (b 0) (b 2) * side (a 1) (a 3) (b 1) (b 3)

/-- The Jaccard overlap of the anchor `a` with the box `b`. -/
def iou (a b : Fin 4 → EReal) : EReal := Ideal.div (inter a b) (areaA a + areaB b - inter a b)

/-- The threshold one half. -/
abbrev half : EReal := Ideal.ofBits FTy.f32 1056964608#32

/-- The threshold 0.4, as rounded. -/
abbrev low : EReal := Ideal.ofBits FTy.f32 1053609165#32

open Classical in
/-- One where the condition holds, and zero where not. -/
def flag (p : Prop) : EReal := if p then 1 else 0

/-- An anchor is matched where its greatest overlap is at least one half, or, when no anchor's of the batch is,
where some object has its best anchor here. -/
def Pos (any : Prop) (m : EReal) (hit : Prop) : Prop := (any ∧ half ≤ m) ∨ (¬ any ∧ hit)

open Classical in
/-- What an unmatched anchor gets: zero below the lower threshold, and minus one otherwise. -/
def idle (m : EReal) : EReal := if m < low then 0 else -1

open Classical in
/-- The assigned identity: one where matched, and the idle value where not. -/
def aidOf (pos : Prop) (m : EReal) : EReal := if pos then 1 else idle m

open Classical in
/-- The classification target of class `c`: the matched object's one-hot row, and the idle value where unmatched. -/
def clsOf (pos : Prop) (m : EReal) (label : BitVec 32) (c : ℕ) : EReal :=
  if pos then flag (BitVec.ofNat 32 c = label + 1#32) else idle m

/-- The four regression targets of a box against an anchor. -/
def locOf (a b : Fin 4 → EReal) : Fin 4 → EReal :=
  ![Ideal.div (Ideal.div (b 0 + b 2) two - a 0) (Ideal.div (a 2) (Ideal.ofBits FTy.f32 1092616192#32)),
    Ideal.div (Ideal.div (b 1 + b 3) two - a 1) (Ideal.div (a 3) (Ideal.ofBits FTy.f32 1092616192#32)),
    Ideal.log (Ideal.div (b 2 - b 0) (a 2)) * Ideal.ofBits FTy.f32 1084227584#32,
    Ideal.log (Ideal.div (b 3 - b 1) (a 3)) * Ideal.ofBits FTy.f32 1084227584#32]

end Cert.Ssd
end
end
-- ==== Proof.Folds.lean ====
module

public import Idealize.ShloMosaic.PureOps.Ideal
public import Idealize.ShloMosaic.Lib.Pointwise
public import Idealize.ShloMosaic.Lib.SortNet.Extract

/-! The first greatest entry of a finite family, and the folds both programs find it by. -/

@[expose] public section
noncomputable section

namespace Cert.Ssd

open Idealize.ShloMosaic

/-- Every finite non-empty family of extended reals has a greatest entry. -/
theorem exists_greatest {n : ℕ} [NeZero n] (f : Fin n → EReal) : ∃ k, ∀ i, f i ≤ f k := by
  obtain ⟨k, -, hk⟩ := Finset.exists_max_image Finset.univ f Finset.univ_nonempty
  exact ⟨k, fun i => hk i (Finset.mem_univ i)⟩

open Classical in
/-- The first index at which the family is greatest. -/
def first {n : ℕ} [NeZero n] (f : Fin n → EReal) : Fin n :=
  (Finset.univ.filter fun k => ∀ i, f i ≤ f k).min'
    (let ⟨k, hk⟩ := exists_greatest f; ⟨k, Finset.mem_filter.2 ⟨Finset.mem_univ k, hk⟩⟩)

/-- No entry exceeds the one at the first greatest index. -/
theorem le_first {n : ℕ} [NeZero n] (f : Fin n → EReal) (i : Fin n) : f i ≤ f (first f) :=
  (Finset.mem_filter.1 (Finset.min'_mem (Finset.univ.filter fun k => ∀ i, f i ≤ f k) _)).2 i

/-- The first greatest index comes before every other index of an equal entry. -/
theorem first_le {n : ℕ} [NeZero n] (f : Fin n → EReal) (i : Fin n) (h : f i = f (first f)) : first f ≤ i :=
  Finset.min'_le _ _ (Finset.mem_filter.2 ⟨Finset.mem_univ i, fun j => h ▸ le_first f j⟩)

/-- The two properties determine the first greatest index. -/
theorem eq_first {n : ℕ} [NeZero n] (f : Fin n → EReal) (k : Fin n) (h : ∀ i, f i ≤ f k) (h' : ∀ i, f i = f k → k ≤ i) :
    k = first f :=
  le_antisymm (h' _ (le_antisymm (h _) (le_first f k))) (first_le f k (le_antisymm (le_first f k) (h _)))

/-- The word of minus infinity. -/
theorem negInf : Ideal.ofBits FTy.f32 4286578688#32 = ⊥ := by simp [Ideal.ofBits, Ideal.ieee]

/-- A maximum from minus infinity is the entry at the first greatest index. -/
theorem fold_max_eq {n : ℕ} [NeZero n] (f : Fin n → EReal) :
    Finset.fold max (Ideal.ofBits FTy.f32 4286578688#32) f Finset.univ = f (first f) := by
  rw [negInf]
  exact le_antisymm ((Finset.fold_max_le _).2 ⟨bot_le, fun i _ => le_first f i⟩)
    ((Finset.le_fold_max _).2 (.inr ⟨_, Finset.mem_univ _, le_rfl⟩))

/-- A signed minimum that is attained and not exceeded is the fold's value. -/
theorem fold_minsi_eq {n : ℕ} (f : Fin n → BitVec 32) (a w : BitVec 32) (ha : w.toInt ≤ a.toInt)
    (h : ∀ x, w.toInt ≤ (f x).toInt) (x : Fin n) (hx : f x = w) : Finset.fold IntOp.minsi a f Finset.univ = w := by
  apply BitVec.eq_of_toInt_eq
  rw [← Finset.fold_hom (op' := min) (m := BitVec.toInt) (fun a b => SortNet.toInt_minsi a b)]
  exact le_antisymm ((Finset.fold_min_le _).2 (.inr ⟨x, Finset.mem_univ _, by rw [hx]⟩))
    ((Finset.le_fold_min _).2 ⟨ha, fun i _ => h i⟩)

/-- A small number's word read as a signed integer. -/
theorem toInt_small {k : ℕ} (h : k < 2 ^ 31) : (BitVec.ofNat 32 k).toInt = k := by
  rw [_root_.BitVec.toInt_ofNat']
  simp only [Int.bmod]
  omega

/-- The least index, offset by `off`, among those of the greatest entry, the others counted as `2 ^ 30`. -/
theorem fold_first {n : ℕ} [NeZero n] (f : Fin n → EReal) (off : ℕ) (hn : off + n ≤ 2 ^ 30) :
    Finset.fold IntOp.minsi (2147483647#32)
      (fun x => if f x = f (first f) then BitVec.ofNat 32 (x.val + off) else 1073741824#32) Finset.univ
      = BitVec.ofNat 32 ((first f).val + off) := by
  have hk := (first f).isLt
  refine fold_minsi_eq _ _ _ ?_ (fun x => ?_) (first f) (if_pos rfl)
  · rw [toInt_small (by omega)]
    have : (2147483647#32).toInt = 2147483647 := by decide
    omega
  · rw [toInt_small (by omega)]
    split
    · rename_i hx
      have := first_le f x hx
      rw [toInt_small (by omega)]
      omega
    · have : (1073741824#32).toInt = 1073741824 := by decide
      omega

end Cert.Ssd
end
end
-- ==== Proof.KernelA.lean ====
module

public import proofs.«01_k».proof.Proof.Spec
public import proofs.«01_k».proof.Proof.Folds
public import proofs.«01_k».proof.Proof.Gen.KernelIdeal.Frame
public import Idealize.ShloMosaic.Lib.Pointwise
public import Idealize.ShloMosaic.Lib.Pipeline.ValueKit
public import Idealize.ShloMosaic.Lib.Pipeline.Covers

/-! What the first pallas_call leaves in its four output arrays. -/

@[expose] public section
set_option maxRecDepth 16384
noncomputable section
namespace Cert.KernelIdeal.A
open Idealize.ShloMosaic Idealize.SL.Sem Cert.KernelIdeal Cert.KernelIdeal.Gen Cert.Ssd

/-- The block's overlaps at object `o` and lane `l`. -/
theorem pay12_at (x0 : Vec Ideal S4x6784 .f32) (x1 : Vec Ideal S1x128x4 .f32) (o : Fin 128) (l : Fin 6784) :
    k0_pay12 (k0_pay2 x0) (k0_pay3 x0) (k0_pay4 x0) (k0_pay5 x0) (k0_pay7 x1) (k0_pay8 x1) (k0_pay9 x1) (k0_pay10 x1)
      (k0_pay11 x0 x1) (ix2 o l) = iou (fun k => x0 (ix2 k l)) (fun k => x1 (ix3 0 o k)) := by
  pointwise [k0_pay12, k0_pay2, k0_pay3, k0_pay4, k0_pay5, k0_pay7, k0_pay8, k0_pay9, k0_pay10, k0_pay11, k0_pay6, k0_pay1]
  rfl

variable (V : (c : Dev nD) → (b : Ref sig .tc) → Buf (Elt Ideal) ((c.tc : Thread nD τ).loc b))

/-- The overlap of the padded anchor `n` with object `o` of batch `b`, over the arrays as the region finds them. -/
def J0 (c : Dev nD) (b : Fin 16) (n : Fin 20352) (o : Fin 128) : EReal :=
  iou (fun k => (V c main_v2 : FVec Ideal S4x20352 .f32) (ix2 k n)) (fun k => (V c main_arg0 : FVec Ideal S16x128x4 .f32) (ix3 b o k))

/-- The windows' block indices at the grid point `t`: the batch is `t / 3`, the block of anchors `t % 3`. -/
theorem idx0 : ∀ t : Fin cfg0.N, win0_0.index t = ![0, t.val % 3] ∧ win0_1.index t = ![t.val / 3, 0, 0] ∧
    win0_2.index t = ![t.val / 3, 0, t.val % 3] ∧ win0_3.index t = ![t.val / 3, 0, t.val % 3] ∧
    win0_4.index t = ![t.val / 3, t.val % 3, 0, 0] ∧ win0_5.index t = ![t.val / 3, t.val % 3, 0, 0] := by
  decide +kernel

/-- The batch of a grid point. -/
def bat (t : Fin cfg0.N) : Fin 16 := ⟨t.val / 3, by have h : t.val < 48 := t.isLt; omega⟩

/-- The padded anchor at lane `l` of the block of a grid point. -/
def row (t : Fin cfg0.N) (l : Fin 6784) : Fin 20352 := ⟨t.val % 3 * 6784 + l.val, by omega⟩

/-- The overlaps of a grid point's blocks are the whole arrays' at the block's place. -/
theorem J0_blk (c : Dev nD) (t : Fin cfg0.N) (o : Fin 128) (l : Fin 6784) :
    iou (fun k => iblk0 V c 0 t (ix2 k l)) (fun k => iblk0 V c 1 t (ix3 0 o k)) = J0 V c (bat t) (row t l) o := by
  obtain ⟨h0, h1, -⟩ := idx0 t
  unfold J0
  congr 1 <;> funext k
  · blk_ext [iblk0, h0, row]
  · blk_ext [iblk0, h1, bat]

/-- Where an entry of a grid point's block of the anchors' maxima lies in the whole array. -/
theorem emb2 (t : Fin cfg0.N) (a b : Fin 1) (l : Fin 6784) :
    ((View.whole main_v6_0).slice (win0_2.rect t)).emb (ix3 a b l) = (ix3 (bat t) 0 (row t l) : S16x1x20352.Idx) := by
  obtain ⟨-, -, h2, -⟩ := idx0 t
  blk_ext [h2, bat, row]

/-- Where an entry of a grid point's block of the anchors' best objects lies in the whole array. -/
theorem emb3 (t : Fin cfg0.N) (a b : Fin 1) (l : Fin 6784) :
    ((View.whole main_v6_1).slice (win0_3.rect t)).emb (ix3 a b l) = (ix3 (bat t) 0 (row t l) : S16x1x20352.Idx) := by
  obtain ⟨-, -, -, h3, -⟩ := idx0 t
  blk_ext [h3, bat, row]

/-- Each anchor's greatest overlap. -/
theorem arr_m (c : Dev nD) :
    (dat0 (F := Ideal) V c).arrAt 2 cfg0.N =
      (fun i : S16x1x20352.Idx => J0 V c (i 0) (i 2) (first fun o => J0 V c (i 0) (i 2) o)) := by
  refine (dat0 V c).arrAt_eq_of_covers 2 _ (by decide +kernel) fun t hf y => ?_
  blk_simp
  rw [after0_2]
  unfold_out out0_2
  frame_out
  idx_vars y
  rw [emb2]
  pointwise [k0_pay14, k0_pay13]
  simp only [pay12_at, J0_blk, fold_max_eq]

/-- Each anchor's best object: the first of greatest overlap. -/
theorem arr_am (c : Dev nD) :
    (dat0 (F := Ideal) V c).arrAt 3 cfg0.N =
      (fun i : S16x1x20352.Idx => BitVec.ofNat 32 (first fun o => J0 V c (i 0) (i 2) o).val) := by
  refine (dat0 V c).arrAt_eq_of_covers 3 _ (by decide +kernel) fun t hf y => ?_
  blk_simp
  rw [after0_3]
  unfold_out out0_3
  frame_out
  idx_vars y
  rw [emb3]
  pointwise [k0_pay15, k0_pay13]
  simp only [pay12_at, J0_blk, fold_max_eq]
  exact fold_first _ 0 (by decide)

/-- The padded anchor at lane `l` of the `q`-th block of anchors. -/
def nth (q : Fin 3) (l : Fin 6784) : Fin 20352 := ⟨q.val * 6784 + l.val, by omega⟩

/-- The block of anchors of a grid point. -/
def third (t : Fin cfg0.N) : Fin 3 := ⟨t.val % 3, by omega⟩

/-- The second grid coordinate is the block of anchors. -/
theorem coord1 : ∀ t : Fin cfg0.N, ((grid0.coords t) 1).val = t.val % 3 := by decide +kernel

/-- Where an entry of a grid point's block of the objects' maxima lies in the whole array. -/
theorem emb4 (t : Fin cfg0.N) (a b : Fin 1) (o : Fin 128) (d : Fin 1) :
    ((View.whole main_v6_2).slice (win0_4.rect t)).emb (ix4 a b o d) = (ix4 (bat t) (third t) o 0 : S16x3x128x1.Idx) := by
  obtain ⟨-, -, -, -, h4, -⟩ := idx0 t
  blk_ext [h4, bat, third]

/-- Where an entry of a grid point's block of the objects' best anchors lies in the whole array. -/
theorem emb5 (t : Fin cfg0.N) (a b : Fin 1) (o : Fin 128) (d : Fin 1) :
    ((View.whole main_v6_3).slice (win0_5.rect t)).emb (ix4 a b o d) = (ix4 (bat t) (third t) o 0 : S16x3x128x1.Idx) := by
  obtain ⟨-, -, -, -, -, h5⟩ := idx0 t
  blk_ext [h5, bat, third]

/-- Each object's greatest overlap within each block of anchors. -/
theorem arr_pom (c : Dev nD) :
    (dat0 (F := Ideal) V c).arrAt 4 cfg0.N =
      (fun i : S16x3x128x1.Idx => J0 V c (i 0) (nth (i 1) (first fun l => J0 V c (i 0) (nth (i 1) l) (i 2))) (i 2)) := by
  refine (dat0 V c).arrAt_eq_of_covers 4 _ (by decide +kernel) fun t hf y => ?_
  blk_simp
  rw [after0_4]
  unfold_out out0_4
  frame_out
  idx_vars y
  rw [emb4]
  pointwise [k0_pay17, k0_pay16]
  simp only [pay12_at, J0_blk, fold_max_eq]
  rfl

/-- Each object's best anchor within each block of anchors: the first of greatest overlap. -/
theorem arr_poa (c : Dev nD) :
    (dat0 (F := Ideal) V c).arrAt 5 cfg0.N =
      (fun i : S16x3x128x1.Idx => BitVec.ofNat 32 ((first fun l => J0 V c (i 0) (nth (i 1) l) (i 2)).val + (i 1).val * 6784)) := by
  refine (dat0 V c).arrAt_eq_of_covers 5 _ (by decide +kernel) fun t hf y => ?_
  blk_simp
  rw [after0_5]
  unfold_out out0_5
  frame_out
  idx_vars y
  rw [emb5]
  pointwise [k0_pay18, k0_pay16]
  simp only [pay12_at, J0_blk, fold_max_eq]
  have hw : ∀ x : Fin 6784, IntOp.addi (BitVec.ofNat 32 x.val) (Scalar.muli (BitVec.ofNat 32 ((grid0.coords t) 1).val) 6784#32) =
      BitVec.ofNat 32 (x.val + (third t).val * 6784) := fun x => by
    rw [coord1, BitVec.ofNat_add, BitVec.ofNat_mul]
    rfl
  have h5 : win0_5.index t 1 = (third t).val := by rw [(idx0 t).2.2.2.2.2]; rfl
  simp only [hw, h5]
  exact fold_first (fun l => J0 V c (bat t) (row t l) y2) _ (by have := (third t).isLt; omega)
end Cert.KernelIdeal.A
end
end
-- ==== Proof.KernelB.lean ====
module

public import proofs.«01_k».proof.Proof.KernelA
public import proofs.«01_k».proof.Proof.Folds
public import proofs.«01_k».proof.Proof.Gen.KernelIdeal.Frame
public import Idealize.ShloMosaic.Lib.Pointwise
public import Idealize.ShloMosaic.Lib.Pipeline.ValueKit
public import Idealize.ShloMosaic.Lib.Pipeline.Covers

/-! What the second pallas_call computes at one entry of a block. -/

@[expose] public section
set_option maxRecDepth 16384
noncomputable section
namespace Cert.KernelIdeal.B
open Idealize.ShloMosaic Idealize.SL.Sem Cert.KernelIdeal Cert.KernelIdeal.Gen Cert.Ssd

/-- A truth value as a word widened and read as a float is its flag. -/
theorem flag_bit (b : BitVec 1) : (FloatOps.sitofp FTy.f32 (BitVec.setWidth 32 b) : Ideal .f32) = flag (b = 1#1) := by
  rcases BitVec.eq_zero_or_eq_one b with h | h <;> subst h
  · simp [flag, FloatOps.sitofp]
  · simp [flag, FloatOps.sitofp]

/-- An equality test's bit is one exactly where the words are equal. -/
theorem cmpi_eq_one (x y : BitVec 32) : IntOp.cmpi CmpIPredicate.eq x y = 1#1 ↔ x = y := by
  simp only [IntOp.cmpi]
  by_cases h : x = y
  · simp [h]
  · rw [show (x == y) = false from beq_eq_false_iff_ne.2 h]
    simp [h]

/-- A small index's word determines the index. -/
theorem ofNat_inj {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl
    rfl

/-- The greatest of an object's three block maxima. -/
theorem pay2_at (v0 v2 v5 : Vec Ideal S1x1x128x1 .f32) (o : Fin 128) :
    k1_pay2 v0 v2 v5 (ix2 o 0) = max (max (v0 (ix4 0 0 o 0)) (v2 (ix4 0 0 o 0))) (v5 (ix4 0 0 o 0)) := by
  pointwise [k1_pay2]

/-- The least of the first two blocks' candidates. -/
theorem pay3_at (v0 v2 v5 v9 v17 : Vec Ideal S1x1x128x1 .f32) (v12 v20 : Vec Ideal S1x1x128x1 .i32) (o : Fin 128) :
    k1_pay3 v0 v2 v5 v9 v12 v17 v20 (ix2 o 0) =
      IntOp.minsi (IntOp.minsi (1073741824#32)
        (if v9 (ix4 0 0 o 0) = k1_pay2 v0 v2 v5 (ix2 o 0) then v12 (ix4 0 0 o 0) else 1073741824#32))
        (if v17 (ix4 0 0 o 0) = k1_pay2 v0 v2 v5 (ix2 o 0) then v20 (ix4 0 0 o 0) else 1073741824#32) := by
  pointwise [k1_pay3]

/-- The greatest entry of a column. -/
theorem pay4_at (v7 : FVec Ideal S128x1 .f32) : k1_pay4 v7 = v7 (ix2 (first fun o => v7 (ix2 o 0)) 0) := by
  pointwise [k1_pay4]
  refine Eq.trans ?_ (fold_max_eq fun o => v7 (ix2 o 0))
  rw [negInf]
  refine le_antisymm ?_ ?_
  · exact (Finset.fold_max_le _).2 ⟨bot_le, fun x _ => (Finset.le_fold_max _).2 (.inr ⟨x.1, Finset.mem_univ _, le_rfl⟩)⟩
  · exact (Finset.fold_max_le _).2 ⟨bot_le, fun x _ => (Finset.le_fold_max _).2 (.inr ⟨(x, 0), Finset.mem_univ _, le_rfl⟩)⟩

/-- The one-hot column of an anchor's best object. -/
theorem pay6_at (v40 : Vec Ideal S1x1x6784 .i32) (l : Fin 6784) (A : Fin 128) (hA : v40 (ix3 0 0 l) = BitVec.ofNat 32 A.val)
    (o : Fin 128) : k1_pay6 v40 (ix2 o l) = flag (o = A) := by
  pointwise [k1_pay6]
  rw [flag_bit, cmpi_eq_one, hA, ofNat_inj (by omega) (by omega), Fin.ext_iff]

/-- A sum against a one-hot column is the chosen entry. -/
theorem sum_flag (f : Fin 128 → EReal) (A : Fin 128) : ∑ o, f o * flag (o = A) = f A := by
  rw [Finset.sum_eq_single A]
  · simp [flag]
  · intro o _ h
    simp [flag, h]
  · simp

/-- The best object's box. -/
theorem pay7_at (v40 : Vec Ideal S1x1x6784 .i32) (v47 : Vec Ideal S1x4x128 .f32) (v49 : Vec Ideal S1x1x128 .f32) (l : Fin 6784)
    (A : Fin 128) (hA : v40 (ix3 0 0 l) = BitVec.ofNat 32 A.val) (k : Fin 4) :
    k1_pay7 v40 v47 v49 (ix2 ⟨k.val, by omega⟩ l) = v47 (ix3 0 k A) := by
  pointwise [k1_pay7]
  simp only [pay6_at v40 l A hA]
  exact sum_flag (fun o => v47 (ix3 0 k o)) A

/-- Whether an object's best anchor is this one. -/
theorem pay8_at (a : BitVec 32) (v7 : FVec Ideal S128x1 .f32) (v24 : IVec S128x1 32) (v25 : Vec Ideal S1x1x128x1 .f32)
    (v28 : Vec Ideal S1x1x128x1 .i32) (o : Fin 128) (l : Fin 6784) :
    k1_pay8 a v7 v24 v25 v28 (ix2 o l) = 1#1 ↔ IntOp.addi (BitVec.ofNat 32 l.val) (Scalar.muli a 6784#32) =
      IntOp.minsi (v24 (ix2 o 0)) (if v25 (ix4 0 0 o 0) = v7 (ix2 o 0) then v28 (ix4 0 0 o 0) else 1073741824#32) := by
  pointwise [k1_pay8]
  rw [cmpi_eq_one]

/-- A decided bit is one exactly where the condition holds. -/
theorem ofBool_one (p : Prop) [Decidable p] : BitVec.ofBool (decide p) = 1#1 ↔ p := by
  by_cases h : p <;> simp [h]

/-- The bits' form of the two ways to be matched. -/
theorem pos_bit (a b h : BitVec 1) : IntOp.ori (IntOp.andi a b) (IntOp.andi (Scalar.xori a 1#1) h) = 1#1 ↔
    (a = 1#1 ∧ b = 1#1) ∨ (¬ a = 1#1 ∧ h = 1#1) := by
  revert a b h
  decide

/-- One minus one in the extended reals. -/
theorem one_sub_one : (1 : EReal) - 1 = 0 := by
  rw [← EReal.coe_one, ← EReal.coe_sub, sub_self, EReal.coe_zero]

/-- The matched anchors' flag. -/
theorem pay10_at (a : BitVec 1) (v39 : FVec Ideal S1x6784 .f32) (v58 : IVec S128x6784 1) (l : Fin 6784) :
    k1_pay10 a v39 v58 (Scalar.ofBits .f32 0x00000000#32) k1_pay9 (ix2 0 l) =
      flag (Pos (a = 1#1) (v39 (ix2 0 l)) (∃ o, v58 (ix2 o l) = 1#1)) := by
  have hmax : (0 < Finset.fold max (Ideal.ofBits FTy.f32 4286578688#32) (fun x => (Scalar.select (v58 (ix2 x l)) 1 0 : EReal))
      Finset.univ) ↔ ∃ o, v58 (ix2 o l) = 1#1 := by
    rw [negInf, Finset.lt_fold_max]
    have h : ∀ x, (0 < if v58 (ix2 x l) = 1#1 then (1 : EReal) else 0) ↔ v58 (ix2 x l) = 1#1 := fun x => by
      split <;> simp [*]
    simp [Scalar.select, h]
  pointwise [k1_pay10, k1_pay9]
  rw [flag_bit]
  congr 1
  rw [eq_iff_iff, pos_bit, ofBool_one, ofBool_one, hmax]
  rfl

/-- An anchor neither matched nor below the lower threshold. -/
theorem pay11_at (a : BitVec 1) (v39 : FVec Ideal S1x6784 .f32) (v58 : IVec S128x6784 1) (l : Fin 6784) (p : Prop)
    (hp : k1_pay10 a v39 v58 (Scalar.ofBits .f32 0x00000000#32) k1_pay9 (ix2 0 l) = flag p) :
    k1_pay11 a v39 v58 (Scalar.ofBits .f32 0x00000000#32) k1_pay9 (ix2 0 l) = flag (¬ p ∧ ¬ v39 (ix2 0 l) < low) := by
  have hp' : k1_pay10 a v39 v58 (0 : EReal) k1_pay9 (ix2 0 l) = flag p := by
    rw [← hp]
    congr 1
    exact Ideal.ofBits_zero_f32.symm
  pointwise [k1_pay11]
  rw [hp', flag_bit]
  by_cases h : p <;> by_cases h' : v39 (ix2 0 l) < low <;> simp [flag, h, h', one_sub_one]

/-- The assigned identity. -/
theorem pay12_at (a : BitVec 1) (v39 : FVec Ideal S1x6784 .f32) (v58 : IVec S128x6784 1) (l : Fin 6784) (p : Prop)
    (hp : k1_pay10 a v39 v58 (Scalar.ofBits .f32 0x00000000#32) k1_pay9 (ix2 0 l) = flag p) :
    k1_pay12 a v39 v58 (Scalar.ofBits .f32 0x00000000#32) k1_pay9 (ix3 0 0 l) = aidOf p (v39 (ix2 0 l)) := by
  have hp' : k1_pay10 a v39 v58 (0 : EReal) k1_pay9 (ix2 0 l) = flag p := by
    rw [← hp]
    congr 1
    exact Ideal.ofBits_zero_f32.symm
  have hq := pay11_at a v39 v58 l p hp
  rw [show (Scalar.ofBits .f32 0x00000000#32 : Ideal .f32) = (0 : EReal) from Ideal.ofBits_zero_f32] at hq
  pointwise [k1_pay12]
  rw [hp', hq]
  by_cases h : p <;> by_cases h' : v39 (ix2 0 l) < low <;> simp [flag, aidOf, idle, h, h']

/-- A label read through a float comes back. -/
theorem label_back (w : BitVec 32) : FloatOps.fptosi 32 (FloatOps.sitofp FTy.f32 w : Ideal .f32) = w := by
  show Ideal.fptosi 32 (((w.toInt : ℝ)) : EReal) = w
  have h1 := BitVec.le_toInt w
  have h2 := BitVec.toInt_lt (x := w)
  have h : Ideal.toIntClamped (-(2 ^ (32 - 1) : Nat)) ((2 ^ (32 - 1) : Nat) - 1) (((w.toInt : ℝ)) : EReal) = w.toInt := by
    show max _ (min _ (if (0 : ℝ) ≤ (w.toInt : ℝ) then ⌊(w.toInt : ℝ)⌋ else ⌈(w.toInt : ℝ)⌉)) = w.toInt
    rw [Int.floor_intCast, Int.ceil_intCast, ite_self]
    simp only [Nat.cast_pow, Nat.cast_ofNat] at h1 h2 ⊢
    omega
  unfold Ideal.fptosi
  rw [h, BitVec.ofInt_toInt]

/-- The one-hot row of an object's class. -/
theorem pay13_at (v89 : Vec Ideal S1x1x128 .f32) (o c : Fin 128) (w : BitVec 32)
    (hw : v89 (ix3 0 0 o) = (FloatOps.sitofp FTy.f32 w : Ideal .f32)) :
    k1_pay13 v89 (ix2 o c) = flag (BitVec.ofNat 32 c.val = w + 1#32) := by
  pointwise [k1_pay13]
  rw [flag_bit, cmpi_eq_one, hw, label_back]
  rfl

/-- The lane holds a class. -/
theorem pay14_at (c : Fin 128) : k1_pay14 (ix2 0 c) = BitVec.ofBool (decide (c.val < 81)) := by
  revert c
  decide +kernel

open Classical in
/-- The classification target at a lane: the class's where the lane holds one, and no idle value past the classes. -/
def laneOf (p : Prop) (m : EReal) (w : BitVec 32) (c : ℕ) : EReal :=
  if p then flag (BitVec.ofNat 32 c = w + 1#32) else if c < 81 then idle m else 0

/-- At a class's lane it is the class's target. -/
theorem laneOf_eq (p : Prop) (m : EReal) (w : BitVec 32) (c : ℕ) (hc : c < 81) : laneOf p m w c = clsOf p m w c := by
  unfold laneOf clsOf
  rw [if_pos hc]

/-- The classification targets. -/
theorem pay15_at (v46 : FVec Ideal S128x6784 .f32) (v77 v84 : FVec Ideal S1x6784 .f32) (v98 : FVec Ideal S128x128 .f32)
    (l : Fin 6784) (c : Fin 128) (A : Fin 128) (h46 : ∀ o, v46 (ix2 o l) = flag (o = A)) (p : Prop) (m : EReal) (w : BitVec 32)
    (h77 : v77 (ix2 0 l) = flag p) (h84 : v84 (ix2 0 l) = flag (¬ p ∧ ¬ m < low))
    (h98 : v98 (ix2 A c) = flag (BitVec.ofNat 32 c.val = w + 1#32)) :
    k1_pay15 v46 v77 v84 v98 k1_pay14 (Scalar.ofBits .f32 0xBF800000#32) (Scalar.ofBits .f32 0x00000000#32) (ix3 0 l c) =
      laneOf p m w c.val := by
  have hm : Ideal.ofBits FTy.f32 3212836864#32 = -1 := by
    simp only [Ideal.ofBits, Ideal.ieee]
    simp
    rw [← EReal.coe_mul]
    norm_num
  have hs : ∀ x, v46 (ix2 x l) * v77 (ix2 0 l) * v98 (ix2 x c) = v77 (ix2 0 l) * v98 (ix2 x c) * flag (x = A) := fun x => by
    rw [h46, mul_assoc, mul_comm]
  pointwise [k1_pay15]
  simp only [hs]
  rw [sum_flag, pay14_at, h77, h84, h98, hm]
  by_cases h : p <;> by_cases h' : m < low <;> by_cases hc : c.val < 81 <;> simp [flag, laneOf, idle, h, h', hc, Scalar.select]

/-- The regression targets. -/
theorem pay16_at (v52 : FVec Ideal S5x6784 .f32) (v112 : Vec Ideal S4x6784 .f32) (k : Fin 4) (l : Fin 6784) (b : Fin 4 → EReal)
    (hb : ∀ k : Fin 4, v52 (ix2 ⟨k.val, by omega⟩ l) = b k) :
    k1_pay1 (k1_pay16 v52 v112) (ix3 0 k l) = locOf (fun k => v112 (ix2 k l)) b k := by
  have h0 : v52 (ix2 0 l) = b 0 := hb 0
  have h1 : v52 (ix2 1 l) = b 1 := hb 1
  have h2 : v52 (ix2 2 l) = b 2 := hb 2
  have h3 : v52 (ix2 3 l) = b 3 := hb 3
  fin_cases k <;> pointwise [k1_pay1, k1_pay16] <;> simp only [h0, h1, h2, h3] <;> rfl
end Cert.KernelIdeal.B
end
end
-- ==== Proof.Blocks.lean ====
module

public import proofs.«01_k».proof.Proof.KernelA

/-! An object's best anchor, put together from its best anchors within the three blocks of anchors. -/

@[expose] public section
noncomputable section
namespace Cert.KernelIdeal.B
open Idealize.ShloMosaic Cert.KernelIdeal Cert.KernelIdeal.A Cert.Ssd

/-- The place within a block of anchors of its first greatest entry. -/
def spot (g : Fin 20352 → EReal) (q : Fin 3) : Fin 6784 := first fun l => g (nth q l)

/-- A block's greatest entry. -/
def top (g : Fin 20352 → EReal) (q : Fin 3) : EReal := g (nth q (spot g q))

/-- A block's candidate for the first greatest entry: its own if it attains the greatest of all, and a large word if not. -/
def cand (g : Fin 20352 → EReal) (q : Fin 3) : BitVec 32 :=
  if top g q = g (first g) then BitVec.ofNat 32 ((spot g q).val + q.val * 6784) else 1073741824#32

/-- Every anchor lies in one of the three blocks. -/
theorem nth_surj (n : Fin 20352) : ∃ q l, nth q l = n :=
  ⟨⟨n.val / 6784, by omega⟩, ⟨n.val % 6784, by omega⟩, by apply Fin.ext; simp only [nth]; omega⟩

/-- The block that holds the first greatest entry finds it. -/
theorem spot_eq (g : Fin 20352 → EReal) : ∃ q, nth q (spot g q) = first g := by
  obtain ⟨q, l, h⟩ := nth_surj (first g)
  refine ⟨q, ?_⟩
  have : l = spot g q := eq_first (fun l => g (nth q l)) l (fun i => by rw [h]; exact le_first g _) (fun i hi => by
    have h' := first_le g (nth q i) (by rw [← h]; exact hi)
    rw [← h] at h'
    simp only [nth, Fin.le_def] at h' ⊢
    omega)
  rw [← this, h]

/-- The greatest of the three blocks' greatest entries is the greatest of all. -/
theorem max_top (g : Fin 20352 → EReal) : max (max (top g 0) (top g 1)) (top g 2) = g (first g) := by
  obtain ⟨q, h⟩ := spot_eq g
  have hle : ∀ q, top g q ≤ g (first g) := fun q => le_first g _
  have hq : top g q = g (first g) := by rw [top, h]
  refine le_antisymm (max_le (max_le (hle 0) (hle 1)) (hle 2)) ?_
  rw [← hq]
  fin_cases q
  · exact le_max_of_le_left (le_max_left _ _)
  · exact le_max_of_le_left (le_max_right _ _)
  · exact le_max_right _ _

/-- A candidate is never below the first greatest entry's index. -/
theorem le_cand (g : Fin 20352 → EReal) (q : Fin 3) : ((first g).val : ℤ) ≤ (cand g q).toInt := by
  unfold cand
  split
  · rename_i h
    have h' := first_le g (nth q (spot g q)) h
    simp only [nth, Fin.le_def] at h'
    rw [toInt_small (by omega)]
    omega
  · rw [show (1073741824#32).toInt = 1073741824 by decide]
    omega

/-- The least candidate is the first greatest entry's index. -/
theorem min_cand (g : Fin 20352 → EReal) :
    IntOp.minsi (IntOp.minsi (IntOp.minsi (1073741824#32) (cand g 0)) (cand g 1)) (cand g 2) = BitVec.ofNat 32 (first g).val := by
  obtain ⟨q, h⟩ := spot_eq g
  have hq : (cand g q).toInt = ((first g).val : ℤ) := by
    rw [cand, if_pos (by rw [top, h]), ← h, toInt_small (by omega)]
    simp only [nth]
    omega
  apply BitVec.eq_of_toInt_eq
  rw [SortNet.toInt_minsi, SortNet.toInt_minsi, SortNet.toInt_minsi,
    toInt_small (k := (first g).val) (by omega), toInt_small (k := 1073741824) (by decide)]
  have h0 := le_cand g 0
  have h1 := le_cand g 1
  have h2 := le_cand g 2
  have : (cand g 0).toInt = (first g).val ∨ (cand g 1).toInt = (first g).val ∨ (cand g 2).toInt = (first g).val := by
    fin_cases q
    · exact .inl hq
    · exact .inr (.inl hq)
    · exact .inr (.inr hq)
  omega

end Cert.KernelIdeal.B
end
end
-- ==== Proof.Match.lean ====
module

public import proofs.«01_k».proof.Proof.Spec
public import proofs.«01_k».proof.Proof.Folds

/-! The matching of anchors to objects, over a table of overlaps with any number of anchors. -/

@[expose] public section
noncomputable section
namespace Cert.Ssd
open Idealize.ShloMosaic

variable {N : ℕ} [NeZero N] (J : Fin 16 → Fin N → Fin 128 → EReal) (b : Fin 16) (n : Fin N)

/-- Some anchor of the batch overlaps some object by at least one half. -/
def anyP : Prop := ∃ n o, half ≤ J b n o

/-- Some object's best anchor is this one. -/
def hitP : Prop := ∃ o, first (fun n => J b n o) = n

/-- The anchor's best object. -/
def bestP : Fin 128 := first fun o => J b n o

/-- The anchor's greatest overlap. -/
def maxP : EReal := J b n (bestP J b n)

/-- The anchor is matched. -/
def posP : Prop := Pos (anyP J b) (maxP J b n) (hitP J b n)

end Cert.Ssd
end
end
-- ==== Proof.KernelC.lean ====
module

public import proofs.«01_k».proof.Proof.KernelB
public import proofs.«01_k».proof.Proof.Blocks
public import proofs.«01_k».proof.Proof.Match
public import proofs.«01_k».proof.Proof.Folds
public import proofs.«01_k».proof.Proof.Gen.KernelIdeal.Frame
public import Idealize.ShloMosaic.Lib.Pointwise
public import Idealize.ShloMosaic.Lib.Pipeline.ValueKit
public import Idealize.ShloMosaic.Lib.Pipeline.Covers

/-! What the second pallas_call leaves in its three output arrays. -/

@[expose] public section
set_option maxRecDepth 16384
noncomputable section
namespace Cert.KernelIdeal.B
open Idealize.ShloMosaic Idealize.SL.Sem Cert.KernelIdeal Cert.KernelIdeal.Gen Cert.KernelIdeal.A Cert.Ssd

variable (V : (c : Dev nD) → (b : Ref sig .tc) → Buf (Elt Ideal) ((c.tc : Thread nD τ).loc b))

/-- What the region finds: the first region's results over the overlaps `J`, the labels as floats, the boxes and anchors
by coordinate. -/
structure Found (c : Dev nD) (J : Fin 16 → Fin 20352 → Fin 128 → EReal) (lab : Fin 16 → Fin 128 → BitVec 32)
    (box : Fin 16 → Fin 128 → Fin 4 → EReal) (anc : Fin 20352 → Fin 4 → EReal) : Prop where
  anc : V c main_v2 = (fun i : S4x20352.Idx => anc (i 1) (i 0))
  box : V c main_v3 = (fun i : S16x4x128.Idx => box (i 0) (i 2) (i 1))
  lab : V c main_v5 = (fun i : S16x1x128.Idx => (FloatOps.sitofp FTy.f32 (lab (i 0) (i 2)) : Ideal .f32))
  m : V c main_v6_0 = (fun i : S16x1x20352.Idx => J (i 0) (i 2) (first fun o => J (i 0) (i 2) o))
  am : V c main_v6_1 = (fun i : S16x1x20352.Idx => BitVec.ofNat 32 (first fun o => J (i 0) (i 2) o).val)
  pom : V c main_v6_2 = (fun i : S16x3x128x1.Idx => top (fun n => J (i 0) n (i 2)) (i 1))
  poa : V c main_v6_3 = (fun i : S16x3x128x1.Idx => BitVec.ofNat 32 ((spot (fun n => J (i 0) n (i 2)) (i 1)).val + (i 1).val * 6784))

/-- The windows' block indices at the grid point `t`: the batch is `t / 3`, the block of anchors `t % 3`. -/
theorem idx1 : ∀ t : Fin cfg1.N, win1_0.index t = ![0, t.val % 3] ∧ win1_1.index t = ![t.val / 3, 0, 0] ∧
    win1_2.index t = ![t.val / 3, 0, 0] ∧ win1_3.index t = ![t.val / 3, 0, t.val % 3] ∧
    win1_4.index t = ![t.val / 3, 0, t.val % 3] ∧ win1_5.index t = ![t.val / 3, 0, 0, 0] ∧
    win1_6.index t = ![t.val / 3, 0, 0, 0] ∧ win1_7.index t = ![t.val / 3, t.val % 3, 0] ∧
    win1_8.index t = ![t.val / 3, 0, t.val % 3] ∧ win1_9.index t = ![t.val / 3, 0, t.val % 3] := by
  decide +kernel

/-- The second grid coordinate is the block of anchors. -/
theorem coord1 : ∀ t : Fin cfg1.N, ((grid1.coords t) 1).val = t.val % 3 := by decide +kernel

/-- The batch of a grid point. -/
def bat (t : Fin cfg1.N) : Fin 16 := ⟨t.val / 3, by have h : t.val < 48 := t.isLt; omega⟩

/-- The padded anchor at lane `l` of the block of a grid point. -/
def row (t : Fin cfg1.N) (l : Fin 6784) : Fin 20352 := ⟨t.val % 3 * 6784 + l.val, by omega⟩

section Blocks
variable {V} {c : Dev nD} {J : Fin 16 → Fin 20352 → Fin 128 → EReal} {lab : Fin 16 → Fin 128 → BitVec 32}
  {box : Fin 16 → Fin 128 → Fin 4 → EReal} {anc : Fin 20352 → Fin 4 → EReal}

/-- The anchors' block. -/
theorem blk_anc (h : Found V c J lab box anc) (t : Fin cfg1.N) (k : Fin 4) (l : Fin 6784) : iblk1 V c 0 t (ix2 k l) = anc (row t l) k := by
  have e : iblk1 V c 0 t (ix2 k l) = (V c main_v2 : FVec Ideal S4x20352 .f32) (ix2 k (row t l)) := by
    obtain ⟨h0, -⟩ := idx1 t
    blk_ext [iblk1, h0, row]
  rw [e, h.anc]
  rfl

/-- The boxes' block. -/
theorem blk_box (h : Found V c J lab box anc) (t : Fin cfg1.N) (k : Fin 4) (o : Fin 128) : iblk1 V c 1 t (ix3 0 k o) = box (bat t) o k := by
  have e : iblk1 V c 1 t (ix3 0 k o) = (V c main_v3 : FVec Ideal S16x4x128 .f32) (ix3 (bat t) k o) := by
    obtain ⟨-, h0, -⟩ := idx1 t
    blk_ext [iblk1, h0, bat]
  rw [e, h.box]
  rfl

/-- The labels' block. -/
theorem blk_lab (h : Found V c J lab box anc) (t : Fin cfg1.N) (o : Fin 128) :
    iblk1 V c 2 t (ix3 0 0 o) = (FloatOps.sitofp FTy.f32 (lab (bat t) o) : Ideal .f32) := by
  have e : iblk1 V c 2 t (ix3 0 0 o) = (V c main_v5 : FVec Ideal S16x1x128 .f32) (ix3 (bat t) 0 o) := by
    obtain ⟨-, -, h0, -⟩ := idx1 t
    blk_ext [iblk1, h0, bat]
  rw [e, h.lab]
  rfl

/-- The anchors' greatest overlaps' block. -/
theorem blk_m (h : Found V c J lab box anc) (t : Fin cfg1.N) (l : Fin 6784) :
    iblk1 V c 3 t (ix3 0 0 l) = J (bat t) (row t l) (first fun o => J (bat t) (row t l) o) := by
  have e : iblk1 V c 3 t (ix3 0 0 l) = (V c main_v6_0 : FVec Ideal S16x1x20352 .f32) (ix3 (bat t) 0 (row t l)) := by
    obtain ⟨-, -, -, h0, -⟩ := idx1 t
    blk_ext [iblk1, h0, bat, row]
  rw [e, h.m]
  rfl

/-- The anchors' best objects' block. -/
theorem blk_am (h : Found V c J lab box anc) (t : Fin cfg1.N) (l : Fin 6784) :
    iblk1 V c 4 t (ix3 0 0 l) = BitVec.ofNat 32 (first fun o => J (bat t) (row t l) o).val := by
  have e : iblk1 V c 4 t (ix3 0 0 l) = (V c main_v6_1 : IVec S16x1x20352 32) (ix3 (bat t) 0 (row t l)) := by
    obtain ⟨-, -, -, -, h0, -⟩ := idx1 t
    blk_ext [iblk1, h0, bat, row]
  rw [e, h.am]
  rfl

/-- The objects' greatest overlaps within the blocks of anchors. -/
theorem blk_pom (h : Found V c J lab box anc) (t : Fin cfg1.N) (q : Fin 3) (o : Fin 128) :
    iblk1 V c 5 t (ix4 0 q o 0) = top (fun n => J (bat t) n o) q := by
  have e : iblk1 V c 5 t (ix4 0 q o 0) = (V c main_v6_2 : FVec Ideal S16x3x128x1 .f32) (ix4 (bat t) q o 0) := by
    obtain ⟨-, -, -, -, -, h0, -⟩ := idx1 t
    blk_ext [iblk1, h0, bat]
  rw [e, h.pom]
  rfl

/-- The objects' best anchors within the blocks of anchors. -/
theorem blk_poa (h : Found V c J lab box anc) (t : Fin cfg1.N) (q : Fin 3) (o : Fin 128) :
    iblk1 V c 6 t (ix4 0 q o 0) = BitVec.ofNat 32 ((spot (fun n => J (bat t) n o) q).val + q.val * 6784) := by
  have e : iblk1 V c 6 t (ix4 0 q o 0) = (V c main_v6_3 : IVec S16x3x128x1 32) (ix4 (bat t) q o 0) := by
    obtain ⟨-, -, -, -, -, -, h0, -⟩ := idx1 t
    blk_ext [iblk1, h0, bat]
  rw [e, h.poa]
  rfl

variable (V c)

/-- The column of the objects' greatest overlaps, as the body computes it. -/
def best (t : Fin cfg1.N) : FVec Ideal S128x1 .f32 :=
  k1_pay2 (View.ld (iblk1 V c 5 t) r1_0) (View.ld (iblk1 V c 5 t) r1_1) (View.ld (iblk1 V c 5 t) r1_2)

/-- The body's bit for some overlap of at least one half. -/
def anyBit (t : Fin cfg1.N) : BitVec 1 := Scalar.cmpf .oge (k1_pay4 (best V c t)) (Scalar.ofBits .f32 0x3F000000#32 : Ideal .f32)

/-- The body's bits for the objects' best anchors. -/
def hits (t : Fin cfg1.N) : IVec S128x6784 1 :=
  k1_pay8 (BitVec.ofNat 32 ((grid1.coords t) 1).val) (best V c t)
    (k1_pay3 (View.ld (iblk1 V c 5 t) r1_0) (View.ld (iblk1 V c 5 t) r1_1) (View.ld (iblk1 V c 5 t) r1_2) (View.ld (iblk1 V c 5 t) r1_0)
      (View.ld (iblk1 V c 6 t) r1_0) (View.ld (iblk1 V c 5 t) r1_1) (View.ld (iblk1 V c 6 t) r1_1))
    (View.ld (iblk1 V c 5 t) r1_2) (View.ld (iblk1 V c 6 t) r1_2)

variable {V c}

/-- A load of the first, second or third slab of an array of three slabs reads that slab. -/
theorem ld_slab {e : EltTy} (x : Vec Ideal S1x3x128x1 e) (o : Fin 128) :
    View.ld x r1_0 (ix4 0 0 o 0) = x (ix4 0 0 o 0) ∧ View.ld x r1_1 (ix4 0 0 o 0) = x (ix4 0 1 o 0) ∧
      View.ld x r1_2 (ix4 0 0 o 0) = x (ix4 0 2 o 0) := by
  refine ⟨View.ld_unit_apply_of x _ _ _ _ _ ?_, View.ld_unit_apply_of x _ _ _ _ _ ?_, View.ld_unit_apply_of x _ _ _ _ _ ?_⟩ <;>
    (intro a; fin_cases a <;> simp)

/-- An object's greatest overlap. -/
theorem best_at (h : Found V c J lab box anc) (t : Fin cfg1.N) (o : Fin 128) :
    best V c t (ix2 o 0) = J (bat t) (first fun n => J (bat t) n o) o := by
  obtain ⟨h0, h1, h2⟩ := ld_slab (iblk1 V c 5 t) o
  unfold best
  rw [pay2_at, h0, h1, h2, blk_pom h, blk_pom h, blk_pom h]
  exact max_top fun n => J (bat t) n o

/-- The bit says that some overlap is at least one half. -/
theorem anyBit_iff (h : Found V c J lab box anc) (t : Fin cfg1.N) : anyBit V c t = 1#1 ↔ anyP J (bat t) := by
  have e : anyBit V c t = BitVec.ofBool (decide (half ≤ k1_pay4 (best V c t))) := rfl
  rw [e, ofBool_one, pay4_at]
  constructor
  · intro hh
    rw [best_at h] at hh
    exact ⟨_, _, hh⟩
  · rintro ⟨n, o, hh⟩
    refine le_trans ?_ (le_first (fun o => best V c t (ix2 o 0)) o)
    rw [best_at h]
    exact hh.trans (le_first (fun n => J (bat t) n o) n)

/-- The bit says that the object's best anchor is this one. -/
theorem hits_iff (h : Found V c J lab box anc) (t : Fin cfg1.N) (o : Fin 128) (l : Fin 6784) :
    hits V c t (ix2 o l) = 1#1 ↔ first (fun n => J (bat t) n o) = row t l := by
  obtain ⟨h0, h1, h2⟩ := ld_slab (iblk1 V c 5 t) o
  obtain ⟨w0, w1, w2⟩ := ld_slab (iblk1 V c 6 t) o
  have hb := best_at h t o
  have e : IntOp.addi (BitVec.ofNat 32 l.val) (Scalar.muli (BitVec.ofNat 32 ((grid1.coords t) 1).val) 6784#32) =
      BitVec.ofNat 32 (row t l).val := by
    rw [coord1, show (row t l).val = l.val + t.val % 3 * 6784 from add_comm _ _, BitVec.ofNat_add, BitVec.ofNat_mul]
    rfl
  unfold hits
  rw [pay8_at, pay3_at, e]
  unfold best at hb ⊢
  rw [hb, h0, h1, h2, w0, w1, w2, blk_pom h, blk_pom h, blk_pom h, blk_poa h, blk_poa h, blk_poa h]
  have hm := min_cand fun n => J (bat t) n o
  unfold cand at hm
  rw [hm, ofNat_inj (by omega) (by omega), Fin.ext_iff, eq_comm]

/-- The body's flag of the matched anchors. -/
theorem flag_at (h : Found V c J lab box anc) (t : Fin cfg1.N) (l : Fin 6784) :
    k1_pay10 (anyBit V c t) (k1_pay5 (iblk1 V c 3 t)) (hits V c t) (Scalar.ofBits .f32 0x00000000#32) k1_pay9 (ix2 0 l) =
      flag (posP J (bat t) (row t l)) := by
  rw [pay10_at]
  have hm : k1_pay5 (iblk1 V c 3 t) (ix2 0 l) = maxP J (bat t) (row t l) := by
    refine Eq.trans ?_ (blk_m h t l)
    pointwise [k1_pay5]
  rw [hm, anyBit_iff h]
  simp only [hits_iff h]
  rfl

/-- The greatest overlap as the body reads it. -/
theorem pay5_at (h : Found V c J lab box anc) (t : Fin cfg1.N) (l : Fin 6784) :
    k1_pay5 (iblk1 V c 3 t) (ix2 0 l) = maxP J (bat t) (row t l) := by
  refine Eq.trans ?_ (blk_m h t l)
  pointwise [k1_pay5]

end Blocks

/-- A place of an identity block and the array's entry it is written to. -/
theorem emb9 (t : Fin cfg1.N) (y : ((cfg1.win 9).xblock (cfg1.grid.coords t)).Idx) :
    ∃ (l : Fin 6784) (n : Fin 20000), n.val = (row t l).val ∧ (win1 9).xinj (grid1.coords t) y = (ix3 0 0 l : S1x1x6784.Idx) ∧
      ((cfg1.win 9).blk t).view.emb y = (ix3 (bat t) 0 n : S16x1x20000.Idx) := by
  obtain ⟨-, -, -, -, -, -, -, -, -, h9⟩ := idx1 t
  have x0 : ((win1 9).xinj (grid1.coords t) y 0).val = (y 0).val := rfl
  have z0 : (y 0).val < 1 := x0 ▸ ((win1 9).xinj (grid1.coords t) y 0).isLt
  have e0 : ((((cfg1.win 9).blk t).view.emb y) 0).val = t.val / 3 := by blk_simp [h9]; omega
  have e2 : ((((cfg1.win 9).blk t).view.emb y) 2).val = t.val % 3 * 6784 + (y 2).val := by blk_simp [h9]
  have x2 : ((win1 9).xinj (grid1.coords t) y 2).val = (y 2).val := by blk_simp
  refine ⟨(win1 9).xinj (grid1.coords t) y 2, ((cfg1.win 9).blk t).view.emb y 2, ?_, ?_, ?_⟩
  · rw [e2, ← x2]
    rfl
  · funext a
    fin_cases a
    · exact Subsingleton.elim (α := Fin 1) _ _
    · exact Subsingleton.elim (α := Fin 1) _ _
    · rfl
  · funext a
    fin_cases a
    · exact Fin.ext e0
    · exact Subsingleton.elim (α := Fin 1) _ _
    · rfl

/-- A place of a regression block and the array's entry it is written to. -/
theorem emb8 (t : Fin cfg1.N) (y : ((cfg1.win 8).xblock (cfg1.grid.coords t)).Idx) :
    ∃ (k : Fin 4) (l : Fin 6784) (n : Fin 20000), n.val = (row t l).val ∧
      (win1 8).xinj (grid1.coords t) y = (ix3 0 k l : S1x4x6784.Idx) ∧
      ((cfg1.win 8).blk t).view.emb y = (ix3 (bat t) k n : S16x4x20000.Idx) := by
  obtain ⟨-, -, -, -, -, -, -, -, h8, -⟩ := idx1 t
  have x0 : ((win1 8).xinj (grid1.coords t) y 0).val = (y 0).val := rfl
  have z0 : (y 0).val < 1 := x0 ▸ ((win1 8).xinj (grid1.coords t) y 0).isLt
  have e0 : ((((cfg1.win 8).blk t).view.emb y) 0).val = t.val / 3 := by blk_simp [h8]; omega
  have e1 : ((((cfg1.win 8).blk t).view.emb y) 1).val = (y 1).val := by blk_simp [h8]
  have e2 : ((((cfg1.win 8).blk t).view.emb y) 2).val = t.val % 3 * 6784 + (y 2).val := by blk_simp [h8]
  have x1 : ((win1 8).xinj (grid1.coords t) y 1).val = (y 1).val := by blk_simp
  have x2 : ((win1 8).xinj (grid1.coords t) y 2).val = (y 2).val := by blk_simp
  refine ⟨(win1 8).xinj (grid1.coords t) y 1, (win1 8).xinj (grid1.coords t) y 2, ((cfg1.win 8).blk t).view.emb y 2, ?_, ?_, ?_⟩
  · rw [e2, ← x2]
    rfl
  · funext a
    fin_cases a
    · exact Subsingleton.elim (α := Fin 1) _ _
    · rfl
    · rfl
  · funext a
    fin_cases a
    · exact Fin.ext e0
    · exact Fin.ext (e1.trans x1.symm)
    · rfl

/-- A place of a classification block and the array's entry it is written to. -/
theorem emb7 (t : Fin cfg1.N) (y : ((cfg1.win 7).xblock (cfg1.grid.coords t)).Idx) :
    ∃ (l : Fin 6784) (k : Fin 128) (n : Fin 20000), n.val = (row t l).val ∧
      (win1 7).xinj (grid1.coords t) y = (ix3 0 l k : S1x6784x128.Idx) ∧
      ((cfg1.win 7).blk t).view.emb y = (ix3 (bat t) n k : S16x20000x128.Idx) := by
  obtain ⟨-, -, -, -, -, -, -, h7, -⟩ := idx1 t
  have x0 : ((win1 7).xinj (grid1.coords t) y 0).val = (y 0).val := rfl
  have z0 : (y 0).val < 1 := x0 ▸ ((win1 7).xinj (grid1.coords t) y 0).isLt
  have e0 : ((((cfg1.win 7).blk t).view.emb y) 0).val = t.val / 3 := by blk_simp [h7]; omega
  have e1 : ((((cfg1.win 7).blk t).view.emb y) 1).val = t.val % 3 * 6784 + (y 1).val := by blk_simp [h7]
  have e2 : ((((cfg1.win 7).blk t).view.emb y) 2).val = (y 2).val := by blk_simp [h7]
  have x1 : ((win1 7).xinj (grid1.coords t) y 1).val = (y 1).val := by blk_simp
  have x2 : ((win1 7).xinj (grid1.coords t) y 2).val = (y 2).val := by blk_simp
  refine ⟨(win1 7).xinj (grid1.coords t) y 1, (win1 7).xinj (grid1.coords t) y 2, ((cfg1.win 7).blk t).view.emb y 1, ?_, ?_, ?_⟩
  · rw [e1, ← x1]
    rfl
  · funext a
    fin_cases a
    · exact Subsingleton.elim (α := Fin 1) _ _
    · rfl
    · rfl
  · funext a
    fin_cases a
    · exact Fin.ext e0
    · rfl
    · exact Fin.ext (e2.trans x2.symm)

section Arrays
variable {V} {c : Dev nD} {J : Fin 16 → Fin 20352 → Fin 128 → EReal} {lab : Fin 16 → Fin 128 → BitVec 32}
  {box : Fin 16 → Fin 128 → Fin 4 → EReal} {anc : Fin 20352 → Fin 4 → EReal}

/-- An anchor's index among the padded ones. -/
abbrev up (n : Fin 20000) : Fin 20352 := ⟨n.val, by omega⟩

/-- The second region leaves every anchor's assigned identity. -/
theorem arr_aid (h : Found V c J lab box anc) :
    (dat1 (F := Ideal) V c).arrAt 9 cfg1.N =
      (fun i : S16x1x20000.Idx => aidOf (posP J (i 0) (up (i 2))) (maxP J (i 0) (up (i 2)))) := by
  refine (dat1 V c).arrAt_eq_of_covers 9 _ (by decide +kernel) fun t hf y => ?_
  obtain ⟨l, n, hn, hx, he⟩ := emb9 t y
  rw [he]
  blk_simp
  rw [after1_9]
  unfold_out out1_9
  frame_out
  rw [hx]
  have e : up n = row t l := Fin.ext hn
  have hp := pay12_at (anyBit V c t) (k1_pay5 (iblk1 V c 3 t)) (hits V c t) l _ (flag_at h t l)
  rw [pay5_at h] at hp
  refine hp.trans ?_
  show _ = aidOf (posP J (bat t) (up n)) (maxP J (bat t) (up n))
  rw [e]

/-- The second region leaves every anchor's regression targets. -/
theorem arr_loc (h : Found V c J lab box anc) :
    (dat1 (F := Ideal) V c).arrAt 8 cfg1.N =
      (fun i : S16x4x20000.Idx => locOf (anc (up (i 2))) (box (i 0) (bestP J (i 0) (up (i 2)))) (i 1)) := by
  refine (dat1 V c).arrAt_eq_of_covers 8 _ (by decide +kernel) fun t hf y => ?_
  obtain ⟨k, l, n, hn, hx, he⟩ := emb8 t y
  rw [he]
  blk_simp
  rw [after1_8]
  unfold_out out1_8
  frame_out
  rw [hx]
  have e : up n = row t l := Fin.ext hn
  rw [pay16_at _ _ k l (box (bat t) (bestP J (bat t) (row t l))) (fun k => by
    rw [pay7_at _ _ _ l _ (blk_am h t l) k, blk_box h]
    rfl)]
  simp only [blk_anc h]
  show _ = locOf (anc (up n)) (box (bat t) (bestP J (bat t) (up n))) k
  rw [e]

/-- The second region leaves every anchor's classification targets. -/
theorem arr_cls (h : Found V c J lab box anc) :
    (dat1 (F := Ideal) V c).arrAt 7 cfg1.N =
      (fun i : S16x20000x128.Idx => laneOf (posP J (i 0) (up (i 1))) (maxP J (i 0) (up (i 1)))
        (lab (i 0) (bestP J (i 0) (up (i 1)))) (i 2).val) := by
  refine (dat1 V c).arrAt_eq_of_covers 7 _ (by decide +kernel) fun t hf y => ?_
  obtain ⟨l, k, n, hn, hx, he⟩ := emb7 t y
  rw [he]
  blk_simp
  rw [after1_7]
  unfold_out out1_7
  frame_out
  rw [hx]
  have e : up n = row t l := Fin.ext hn
  have hp := pay11_at (anyBit V c t) (k1_pay5 (iblk1 V c 3 t)) (hits V c t) l _ (flag_at h t l)
  rw [pay5_at h] at hp
  refine (pay15_at _ _ _ _ l k _ (pay6_at _ l _ (blk_am h t l)) _ _ _ (flag_at h t l) hp (pay13_at _ _ k _ (blk_lab h t _))).trans ?_
  show _ = laneOf (posP J (bat t) (up n)) (maxP J (bat t) (up n)) (lab (bat t) (bestP J (bat t) (up n))) k.val
  rw [e]
  rfl

end Arrays
end Cert.KernelIdeal.B
end
end
-- ==== Proof.KernelRun.lean ====
module

public import proofs.«01_k».proof.Proof.KernelC
public import Idealize.ShloMosaic.Lib.StableHlo.RunRead
public import Idealize.ShloMosaic.Lib.StableHlo.ReadAt

/-! The kernel's run: what every final state holds in the three result arrays. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state has the three results at the last boundary's contents, and the arguments as launched. -/
theorem run : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_v9) = W4 m ρ c (Proc.devRef .tc main_v9)
      ∧ r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v8 (by decide)), h c _ (mem_uc main_v9 (by decide)), h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Run
end
end
-- ==== Proof.KernelValue.lean ====
module

public import proofs.«01_k».proof.Proof.KernelRun

/-! What the kernel's host operations hand to the regions, and what they make of the regions' results. -/

@[expose] public section
set_option maxRecDepth 16384
noncomputable section
namespace Cert.KernelIdeal.Run
open Idealize.ShloMosaic Idealize.SL.Sem Cert.KernelIdeal Cert.KernelIdeal.Gen Cert.KernelIdeal.A Cert.KernelIdeal.B Cert.Ssd

variable (V : Idealize.ShloMosaic.Valuation τ sig (Elt Ideal))

/-- The anchors by coordinate, padded. -/
theorem read_anc (k : Fin 4) (n : Fin 20352) :
    (StableHlo.after hostOps0 V (Proc.devRef .tc main_v2) : FVec Ideal S4x20352 .f32) (ix2 k n) =
      if h : n.val < 20000 then (V (Proc.devRef .tc main_arg2) : FVec Ideal S20000x4 .f32) (ix2 ⟨n.val, h⟩ k)
      else (Ideal.ofBits .f32 (lit0 (S4.rowMajor (ix1 k))) : EReal) := by
  after_reads_at
  split
  · show (StableHlo.after (hostOps0.take 2) V (Proc.devRef .tc main_arg2) : FVec Ideal S20000x4 .f32) _ = _
    simp only [hostOps0, List.take_succ_cons, List.take_zero]
    after_reads_at
  · show (StableHlo.after (hostOps0.take 2) V (Proc.devRef .tc main_v0) : FVec Ideal S352x4 .f32) _ = _
    simp only [hostOps0, List.take_succ_cons, List.take_zero]
    after_reads_at

/-- The boxes by coordinate. -/
theorem read_box (b : Fin 16) (k : Fin 4) (o : Fin 128) :
    (StableHlo.after hostOps0 V (Proc.devRef .tc main_v3) : FVec Ideal S16x4x128 .f32) (ix3 b k o) =
      (V (Proc.devRef .tc main_arg0) : FVec Ideal S16x128x4 .f32) (ix3 b o k) := by
  after_reads_at

/-- The labels as floats. -/
theorem read_lab (b : Fin 16) (o : Fin 128) :
    (StableHlo.after hostOps0 V (Proc.devRef .tc main_v5) : FVec Ideal S16x1x128 .f32) (ix3 b 0 o) =
      (FloatOps.sitofp FTy.f32 ((V (Proc.devRef .tc main_arg1) : IVec S16x128 32) (ix2 b o)) : Ideal .f32) := by
  after_reads_at

/-- The first result is the classes' lanes of the second region's first array. -/
theorem read_cls (b : Fin 16) (n : Fin 20000) (k : Fin 81) :
    (StableHlo.after hostOps2 V (Proc.devRef .tc main_v8) : FVec Ideal S16x20000x81 .f32) (ix3 b n k) =
      (V (Proc.devRef .tc main_v7_0) : FVec Ideal S16x20000x128 .f32) (ix3 b n ⟨k.val, by omega⟩) := by
  after_reads_at

/-- The second result is the second region's second array, transposed. -/
theorem read_loc (b : Fin 16) (n : Fin 20000) (k : Fin 4) :
    (StableHlo.after hostOps2 V (Proc.devRef .tc main_v9) : FVec Ideal S16x20000x4 .f32) (ix3 b n k) =
      (V (Proc.devRef .tc main_v7_1) : FVec Ideal S16x4x20000 .f32) (ix3 b k n) := by
  after_reads_at

/-- The third result is the second region's third array. -/
theorem read_aid (b : Fin 16) (n : Fin 20000) :
    (StableHlo.after hostOps2 V (Proc.devRef .tc main_v10) : FVec Ideal S16x20000 .f32) (ix2 b n) =
      (V (Proc.devRef .tc main_v7_2) : FVec Ideal S16x1x20000 .f32) (ix3 b 0 n) := by
  after_reads_at

/-- The anchors, with the padding ones after them. -/
def padded (a : FVec Ideal S20000x4 .f32) (n : Fin 20352) (k : Fin 4) : EReal :=
  if h : n.val < 20000 then a (ix2 ⟨n.val, h⟩ k) else Ideal.ofBits .f32 (lit0 (S4.rowMajor (ix1 k)))

/-- The overlaps of every padded anchor with every object. -/
def table (x : FVec Ideal S16x128x4 .f32) (a : FVec Ideal S20000x4 .f32) (b : Fin 16) (n : Fin 20352) (o : Fin 128) : EReal :=
  iou (padded a n) (fun k => x (ix3 b o k))

section Values
variable (m : (ℓ : Loc nD τ sig) → Buf (Elt Ideal) ℓ) (ρ : Dev nD → PrngReg) (c : Dev nD)

/-- The boxes' argument. -/
abbrev boxes : FVec Ideal S16x128x4 .f32 := m ((c.tc : Thread nD τ).loc main_arg0)
/-- The labels' argument. -/
abbrev labels : IVec S16x128 32 := m ((c.tc : Thread nD τ).loc main_arg1)
/-- The anchors' argument. -/
abbrev anchors : FVec Ideal S20000x4 .f32 := m ((c.tc : Thread nD τ).loc main_arg2)

/-- The first region's overlaps are the table's. -/
theorem J0_eq : J0 (V1 m ρ) c = table (boxes m c) (anchors m c) := by
  funext b n o
  unfold J0 table
  congr 1
  funext k
  exact read_anc (W0 m ρ c) k n

/-- The second region finds the padded anchors. -/
theorem found_anc : V2 m ρ c main_v2 = (fun i : S4x20352.Idx => padded (anchors m c) (i 1) (i 0)) := by
  refine (W2_of m ρ c main_v2 (by decide)).trans ?_
  funext i
  idx_vars i
  exact read_anc (W0 m ρ c) _ _

/-- The second region finds the boxes by coordinate. -/
theorem found_box : V2 m ρ c main_v3 = (fun i : S16x4x128.Idx => boxes m c (ix3 (i 0) (i 2) (i 1))) := by
  refine (W2_of m ρ c main_v3 (by decide)).trans ?_
  funext i
  idx_vars i
  exact read_box (W0 m ρ c) _ _ _

/-- The second region finds the labels as floats. -/
theorem found_lab : V2 m ρ c main_v5 =
    (fun i : S16x1x128.Idx => (FloatOps.sitofp FTy.f32 (labels m c (ix2 (i 0) (i 2))) : Ideal .f32)) := by
  refine (W2_of m ρ c main_v5 (by decide)).trans ?_
  funext i
  idx_vars i
  obtain rfl : i1 = 0 := Subsingleton.elim _ _
  exact read_lab (W0 m ρ c) i0 i2

/-- The second region finds the anchors' greatest overlaps. -/
theorem found_m : V2 m ρ c main_v6_0 = (fun i : S16x1x20352.Idx =>
    table (boxes m c) (anchors m c) (i 0) (i 2) (first fun o => table (boxes m c) (anchors m c) (i 0) (i 2) o)) := by
  refine (hF0 m ρ c 2).symm.trans ((arr_m (V1 m ρ) c).trans ?_)
  rw [J0_eq]

/-- The second region finds the anchors' best objects. -/
theorem found_am : V2 m ρ c main_v6_1 = (fun i : S16x1x20352.Idx =>
    BitVec.ofNat 32 (first fun o => table (boxes m c) (anchors m c) (i 0) (i 2) o).val) := by
  refine (hF0 m ρ c 3).symm.trans ((arr_am (V1 m ρ) c).trans ?_)
  rw [J0_eq]

/-- The second region finds the objects' greatest overlaps within the blocks. -/
theorem found_pom : V2 m ρ c main_v6_2 = (fun i : S16x3x128x1.Idx =>
    top (fun n => table (boxes m c) (anchors m c) (i 0) n (i 2)) (i 1)) := by
  refine (hF0 m ρ c 4).symm.trans ((arr_pom (V1 m ρ) c).trans ?_)
  rw [J0_eq]
  rfl

/-- The second region finds the objects' best anchors within the blocks. -/
theorem found_poa : V2 m ρ c main_v6_3 = (fun i : S16x3x128x1.Idx =>
    BitVec.ofNat 32 ((spot (fun n => table (boxes m c) (anchors m c) (i 0) n (i 2)) (i 1)).val + (i 1).val * 6784)) := by
  refine (hF0 m ρ c 5).symm.trans ((arr_poa (V1 m ρ) c).trans ?_)
  rw [J0_eq]
  rfl

/-- What the second region finds. -/
theorem found : Found (V2 m ρ) c (table (boxes m c) (anchors m c)) (fun b o => labels m c (ix2 b o))
    (fun b o k => boxes m c (ix3 b o k)) (padded (anchors m c)) :=
  ⟨found_anc m ρ c, found_box m ρ c, found_lab m ρ c, found_m m ρ c, found_am m ρ c, found_pom m ρ c, found_poa m ρ c⟩

/-- The kernel's classification targets. -/
theorem value_cls (b : Fin 16) (n : Fin 20000) (k : Fin 81) :
    (W4 m ρ c (Proc.devRef .tc main_v8) : FVec Ideal S16x20000x81 .f32) (ix3 b n k) =
      clsOf (posP (table (boxes m c) (anchors m c)) b (up n)) (maxP (table (boxes m c) (anchors m c)) b (up n))
        (labels m c (ix2 b (bestP (table (boxes m c) (anchors m c)) b (up n)))) k.val := by
  refine (read_cls (W3 m ρ c) b n k).trans ?_
  refine (congrFun ((hF1 m ρ c 7).symm.trans (arr_cls (found m ρ c))) (ix3 b n ⟨k.val, by omega⟩)).trans ?_
  exact laneOf_eq _ _ _ _ k.isLt

/-- The kernel's regression targets. -/
theorem value_loc (b : Fin 16) (n : Fin 20000) (k : Fin 4) :
    (W4 m ρ c (Proc.devRef .tc main_v9) : FVec Ideal S16x20000x4 .f32) (ix3 b n k) =
      locOf (padded (anchors m c) (up n)) (fun k => boxes m c (ix3 b (bestP (table (boxes m c) (anchors m c)) b (up n)) k)) k := by
  refine (read_loc (W3 m ρ c) b n k).trans ?_
  exact congrFun ((hF1 m ρ c 8).symm.trans (arr_loc (found m ρ c))) (ix3 b k n)

/-- The kernel's assigned identities. -/
theorem value_aid (b : Fin 16) (n : Fin 20000) :
    (W4 m ρ c (Proc.devRef .tc main_v10) : FVec Ideal S16x20000 .f32) (ix2 b n) =
      aidOf (posP (table (boxes m c) (anchors m c)) b (up n)) (maxP (table (boxes m c) (anchors m c)) b (up n)) := by
  refine (read_aid (W3 m ρ c) b n).trans ?_
  exact congrFun ((hF1 m ρ c 9).symm.trans (arr_aid (found m ρ c))) (ix3 b 0 n)

end Values
end Cert.KernelIdeal.Run
end
end
-- ==== Proof.Overlap.lean ====
module

public import proofs.«01_k».proof.Proof.Spec
public import Idealize.ShloMosaic.Lib.IdealHost

/-! The overlap of an anchor of no negative size with a box that is not empty is not negative, and zero where the anchor
begins beyond the box's right side. -/

@[expose] public section
noncomputable section

namespace Cert.Ssd

open Idealize.ShloMosaic

/-- The word of two. -/
theorem two_eq : two = ((2 : ℝ) : EReal) := by
  simp only [two, Ideal.ofBits, Ideal.ieee]
  simp
  rw [← EReal.coe_mul]
  norm_num

/-- Half of a real number. -/
theorem div_two (w : ℝ) : Ideal.div (w : EReal) two = ((w / 2 : ℝ) : EReal) := by
  rw [two_eq, Ideal.div_coe (by norm_num), ← EReal.coe_mul]
  congr 1
  ring

/-- Half of a size that is not negative is not negative. -/
theorem half_nonneg (w : EReal) (h : 0 ≤ w) : 0 ≤ Ideal.div w two := by
  rw [two_eq, Ideal.div_coe (by norm_num)]
  exact EReal.mul_nonneg h (EReal.coe_nonneg.2 (by norm_num))

/-- The length of an anchor's side, from its ends. -/
def span (c w : EReal) : EReal := c + Ideal.div w two - (c - Ideal.div w two)

/-- The difference of a number and a lesser one is not negative, unless both are the same infinity. -/
theorem sub_nonneg_or {x y : EReal} (h : y ≤ x) : 0 ≤ x - y ∨ x - y = ⊥ := by
  by_cases h1 : x = ⊤ ∧ y = ⊤
  · rw [h1.1, h1.2]
    exact .inr rfl
  by_cases h2 : x = ⊥ ∧ y = ⊥
  · rw [h2.1, h2.2]
    exact .inr rfl
  exact .inl ((EReal.sub_nonneg (by tauto) (by tauto)).2 h)

/-- An anchor's side is not negative, unless its centre is infinite. -/
theorem span_or (c w : EReal) (h : 0 ≤ w) : 0 ≤ span c w ∨ span c w = ⊥ := by
  have h' := half_nonneg w h
  refine sub_nonneg_or (le_trans (b := c) ?_ ?_)
  · calc c - Ideal.div w two ≤ c - 0 := EReal.sub_le_sub le_rfl h'
      _ = c := by simp
  · calc c = c + 0 := by simp
      _ ≤ c + Ideal.div w two := by gcongr

/-- The intersection's side is not negative. -/
theorem side_nonneg (c w p q : EReal) : 0 ≤ side c w p q := le_max_left _ _

/-- The intersection's side is at most the anchor's. -/
theorem side_le (c w p q : EReal) : side c w p q ≤ max 0 (span c w) :=
  max_le_max le_rfl (EReal.sub_le_sub (min_le_left _ _) (le_max_left _ _))

/-- The intersection's side is zero where the anchor begins beyond the box. -/
theorem side_zero (c w p q : EReal) (h : q ≤ c - Ideal.div w two) : side c w p q = 0 :=
  max_eq_left (EReal.sub_nonpos.2 ((min_le_right _ _).trans (h.trans (le_max_left _ _))))

/-- The intersection is not negative. -/
theorem inter_nonneg (a b : Fin 4 → EReal) : 0 ≤ inter a b := EReal.mul_nonneg (side_nonneg _ _ _ _) (side_nonneg _ _ _ _)

/-- A box that is not empty has a positive area. -/
theorem areaB_pos (b : Fin 4 → EReal) (hx : b 0 < b 2) (hy : b 1 < b 3) : 0 < areaB b :=
  EReal.mul_pos (EReal.sub_pos.2 hx) (EReal.sub_pos.2 hy)

/-- An anchor's area that is finite is at least the intersection. -/
theorem inter_le (a b : Fin 4 → EReal) (hw : 0 ≤ a 2) (hh : 0 ≤ a 3) (h1 : areaA a ≠ ⊥) (h2 : areaA a ≠ ⊤) :
    inter a b ≤ areaA a := by
  have hA : areaA a = span (a 0) (a 2) * span (a 1) (a 3) := rfl
  have s := side_le (a 0) (a 2) (b 0) (b 2)
  have t := side_le (a 1) (a 3) (b 1) (b 3)
  have s0 := side_nonneg (a 0) (a 2) (b 0) (b 2)
  have t0 := side_nonneg (a 1) (a 3) (b 1) (b 3)
  have zero : ∀ {x : EReal}, 0 ≤ x → x ≠ 0 → 0 < x := fun h h' => lt_of_le_of_ne h (Ne.symm h')
  unfold inter
  rcases span_or (a 0) (a 2) hw with hX | hX <;> rcases span_or (a 1) (a 3) hh with hY | hY
  · rw [max_eq_right hX] at s
    rw [max_eq_right hY] at t
    rw [hA]
    exact mul_le_mul s t t0 hX
  · rw [hA, hY] at h1 ⊢
    have hX0 : span (a 0) (a 2) = 0 := by
      by_contra h
      exact h1 (EReal.mul_bot_of_pos (zero hX h))
    rw [hX0, max_self] at s
    rw [hX0, le_antisymm s s0, zero_mul, zero_mul]
  · rw [hA, hX] at h1 ⊢
    have hY0 : span (a 1) (a 3) = 0 := by
      by_contra h
      exact h1 (EReal.bot_mul_of_pos (zero hY h))
    rw [hY0, max_self] at t
    rw [hY0, le_antisymm t t0, mul_zero, mul_zero]
  · rw [hA, hX, hY] at h2
    exact absurd rfl h2

/-- An overlap is not negative, be the anchor or the box infinite or not. -/
theorem iou_nonneg (a b : Fin 4 → EReal) (hw : 0 ≤ a 2) (hh : 0 ≤ a 3) (hx : b 0 < b 2) (hy : b 1 < b 3) : 0 ≤ iou a b := by
  have hI := inter_nonneg a b
  have hB := areaB_pos b hx hy
  have hle := inter_le a b hw hh
  unfold iou
  generalize inter a b = I at hI hle ⊢
  generalize areaA a = A at hle ⊢
  generalize areaB b = B at hB ⊢
  have bot : Ideal.div I ⊥ = 0 := by simp [Ideal.div]
  have top : Ideal.div I ⊤ = 0 := by simp [Ideal.div]
  induction A with
  | bot => rw [EReal.bot_add, EReal.bot_sub, bot]
  | top =>
    rw [EReal.top_add_of_ne_bot hB.ne_bot]
    induction I with
    | bot => exact absurd hI (by simp)
    | top => rw [EReal.sub_top, bot]
    | coe I => rw [EReal.top_sub_coe, top]
  | coe A =>
    have hle := hle (EReal.coe_ne_bot A) (EReal.coe_ne_top A)
    induction I with
    | bot => exact absurd hI (by simp)
    | top => exact absurd hle (by simp)
    | coe I =>
      induction B with
      | bot => exact absurd hB (by simp)
      | top => rw [EReal.coe_add_top, EReal.top_sub_coe, top]
      | coe B =>
        have hU : 0 < A + B - I := by
          have h1 := EReal.coe_le_coe_iff.1 hle
          have h2 := EReal.coe_pos.1 hB
          linarith
        rw [← EReal.coe_add, ← EReal.coe_sub, Ideal.div_coe hU.ne', ← EReal.coe_mul]
        exact EReal.coe_nonneg.2 (mul_nonneg (EReal.coe_nonneg.1 hI) (one_div_nonneg.2 hU.le))

/-- An anchor beyond a box's right side does not overlap it. -/
theorem iou_beyond (a b : Fin 4 → EReal) (hA : 0 ≤ areaA a) (hx : b 0 < b 2) (hy : b 1 < b 3)
    (h : b 2 ≤ a 0 - Ideal.div (a 2) two) : iou a b = 0 := by
  have hI : inter a b = 0 := by
    unfold inter
    rw [side_zero _ _ _ _ h, zero_mul]
  have hU : areaA a + areaB b - 0 ≠ 0 := by
    rw [sub_zero]
    exact ((areaB_pos b hx hy).trans_le (le_add_of_nonneg_left hA)).ne'
  unfold iou
  rw [hI, Ideal.div, if_neg hU, zero_mul]

end Cert.Ssd
end
end
-- ==== Proof.Pre.lean ====
module

public import proofs.«01_k».proof.Pre_valid_inputs
public import Idealize.ShloMosaic.Lib.ReduceAll
public import Idealize.ShloMosaic.PureOps.Ideal
public import Idealize.ShloMosaic.Lib.IdealHost
public import Idealize.ShloMosaic.Lib.StableHlo.ReadAt
public import Idealize.ShloMosaic.Lib.StableHlo.Predicate

/-! What the precondition says: boxes not empty and not beyond one on the right; anchors of no negative size. -/

@[expose] public section
set_option maxRecDepth 16384
noncomputable section

namespace Cert.Pre_valid_inputs

open Idealize.ShloMosaic Idealize.ShloMosaic.Tactic

/-- The shapes the precondition's own operations take. -/
theorem shapes : Facts where
  h_S_ := by decide
  slices_S16x128x4_S16x128x2_0_0_0 := by decide
  slices_S16x128x4_S16x128x2_0_0_2 := by decide
  reducesTo_S16x128x2_S_d0_1_2 := by decide
  slices_S16x128x4_S16x128x1_0_0_2 := by decide
  shapeCasts_S16x128x1_S16x128 := by decide
  bcast_S_S16x128 := by decide
  reducesTo_S16x128_S_d0_1 := by decide
  slices_S20000x4_S20000x2_0_2 := by decide
  bcast_S_S20000x2 := by decide
  reducesTo_S20000x2_S_d0_1 := by decide

/-- What the precondition asks of the boxes and the anchors. -/
structure Good (x : FVec Ideal S16x128x4 .f32) (a : FVec Ideal S20000x4 .f32) : Prop where
  box_x : ∀ b o, (x (ix3 b o 0) : EReal) < x (ix3 b o 2)
  box_y : ∀ b o, (x (ix3 b o 1) : EReal) < x (ix3 b o 3)
  box_right : ∀ b o, (x (ix3 b o 2) : EReal) ≤ 1
  anchor_w : ∀ n, (0 : EReal) ≤ a (ix2 n 2)
  anchor_h : ∀ n, (0 : EReal) ≤ a (ix2 n 3)

variable [Facts]

/-- The conjunction of the three tests, taken apart. -/
theorem tests (x : FVec Ideal S16x128x4 .f32) (l : IVec S16x128 32) (a : FVec Ideal S20000x4 .f32)
    (h : fn (F := Ideal) x l a = fun _ => 1#1) :
    (∀ i, cmpf (F := Ideal) .olt (extractStridedSlice S16x128x2 ![0, 0, 0] x Facts.slices_S16x128x4_S16x128x2_0_0_0)
        (extractStridedSlice S16x128x2 ![0, 0, 2] x Facts.slices_S16x128x4_S16x128x2_0_0_2) i = 1#1)
    ∧ (∀ i, cmpf (F := Ideal) .ole (shapeCast S16x128 (extractStridedSlice S16x128x1 ![0, 0, 2] x Facts.slices_S16x128x4_S16x128x1_0_0_2)
        Facts.shapeCasts_S16x128x1_S16x128) (broadcastInDim S16x128 ![] Facts.bcast_S_S16x128 (constant S_ .f32 0x3F800000#32)) i = 1#1)
    ∧ (∀ i, cmpf (F := Ideal) .oge (extractStridedSlice S20000x2 ![0, 2] a Facts.slices_S20000x4_S20000x2_0_2)
        (broadcastInDim S20000x2 ![] Facts.bcast_S_S20000x2 (constant S_ .f32 0x00000000#32)) i = 1#1) := by
  haveI : Subsingleton S_.Idx := ⟨fun i j => funext fun k => k.elim0⟩
  have h0 := congrFun h ix0
  dsimp only [fn] at h0
  obtain ⟨h0, h3⟩ := IntOp.andi_eq_one.1 h0
  obtain ⟨h1, h2⟩ := IntOp.andi_eq_one.1 h0
  exact ⟨Host.reduce_andi_all _ _ _ _ _ h1, Host.reduce_andi_all _ _ _ _ _ h2, Host.reduce_andi_all _ _ _ _ _ h3⟩

/-- A test of one number against another that came out one. -/
theorem of_bit {p : Prop} {_ : Decidable p} (h : BitVec.ofBool (decide p) = 1#1) : p := by
  by_contra hp
  rw [decide_eq_false hp] at h
  exact absurd h (by decide)

/-- Where the precondition holds, the inputs are good. -/
theorem good (x : FVec Ideal S16x128x4 .f32) (l : IVec S16x128 32) (a : FVec Ideal S20000x4 .f32)
    (h : fn (F := Ideal) x l a = fun _ => 1#1) : Good x a := by
  obtain ⟨h2, h3, h5⟩ := tests x l a h
  have one : Ideal.ofBits .f32 0x3F800000#32 = 1 := Ideal.ofBits_one_f32
  have two : ∀ b o (k : Fin 2), (x (ix3 b o ⟨k.val, by omega⟩) : EReal) < x (ix3 b o ⟨2 + k.val, by omega⟩) := by
    intro b o k
    have h := h2 (ix3 b o k)
    pointwise at h
    exact of_bit h
  have ext : ∀ n (k : Fin 2), (0 : EReal) ≤ a (ix2 n ⟨2 + k.val, by omega⟩) := by
    intro n k
    have h := h5 (ix2 n k)
    pointwise at h
    exact Ideal.ofBits_zero_f32 ▸ of_bit h
  refine ⟨fun b o => two b o 0, fun b o => two b o 1, fun b o => ?_, fun n => ext n 0, fun n => ext n 1⟩
  have h := h3 (ix2 b o)
  pointwise at h
  exact one ▸ of_bit h

end Cert.Pre_valid_inputs
end
end
-- ==== Proof.Tie.lean ====
module

public import proofs.«01_k».proof.Proof.KernelValue
public import proofs.«01_k».proof.Proof.Overlap
public import proofs.«01_k».proof.Proof.Pre

/-! The padding anchors change nothing: on good inputs the matching over the padded anchors is the matching over the
anchors. -/

@[expose] public section
set_option maxRecDepth 16384
noncomputable section

namespace Cert.KernelIdeal.Run

open Idealize.ShloMosaic Idealize.SL.Sem Cert.KernelIdeal Cert.KernelIdeal.Gen Cert.KernelIdeal.A Cert.KernelIdeal.B Cert.Ssd

/-- The padding anchor's centre and size. -/
def padR : Fin 4 → ℝ := ![2, 2, 10737418 / 1073741824, 10737418 / 1073741824]

/-- The padding anchor as written. -/
theorem pad_eq (k : Fin 4) : Ideal.ofBits .f32 (lit0 (S4.rowMajor (ix1 k))) = (padR k : EReal) := by
  fin_cases k
  · show Ideal.ofBits .f32 0x40000000#32 = _
    exact two_eq
  · show Ideal.ofBits .f32 0x40000000#32 = _
    exact two_eq
  · show Ideal.ofBits .f32 0x3C23D70A#32 = _
    simp [Ideal.ofBits, Ideal.ieee, padR]
    rw [← EReal.coe_mul]
    norm_num
  · show Ideal.ofBits .f32 0x3C23D70A#32 = _
    simp [Ideal.ofBits, Ideal.ieee, padR]
    rw [← EReal.coe_mul]
    norm_num

variable {x : FVec Ideal S16x128x4 .f32} {a : FVec Ideal S20000x4 .f32}

/-- The overlap of an anchor with an object. -/
def plain (x : FVec Ideal S16x128x4 .f32) (a : FVec Ideal S20000x4 .f32) (b : Fin 16) (n : Fin 20000) (o : Fin 128) : EReal :=
  iou (fun k => a (ix2 n k)) (fun k => x (ix3 b o k))

/-- An anchor among the padded ones. -/
theorem padded_up (n : Fin 20000) : padded a (up n) = fun k => (a (ix2 n k) : EReal) :=
  funext fun _ => dif_pos n.isLt

/-- The table at an anchor. -/
theorem table_up (b : Fin 16) (n : Fin 20000) (o : Fin 128) : table x a b (up n) o = plain x a b n o := by
  unfold table plain
  rw [padded_up]

/-- The table at a padding anchor is zero. -/
theorem table_pad (h : Cert.Pre_valid_inputs.Good x a) (b : Fin 16) (n : Fin 20352) (hn : 20000 ≤ n.val) (o : Fin 128) :
    table x a b n o = 0 := by
  have e : padded a n = fun k => (padR k : EReal) := funext fun k => (dif_neg (by omega)).trans (pad_eq k)
  unfold table
  rw [e]
  refine iou_beyond _ _ ?_ (h.box_x b o) (h.box_y b o) ((h.box_right b o).trans ?_)
  · unfold areaA
    simp only [div_two, ← EReal.coe_add, ← EReal.coe_sub, ← EReal.coe_mul]
    refine EReal.coe_nonneg.2 ?_
    show (0 : ℝ) ≤ (2 + 10737418 / 1073741824 / 2 - (2 - 10737418 / 1073741824 / 2))
      * (2 + 10737418 / 1073741824 / 2 - (2 - 10737418 / 1073741824 / 2))
    norm_num
  · rw [div_two, ← EReal.coe_sub, ← EReal.coe_one]
    refine EReal.coe_le_coe_iff.2 ?_
    show (1 : ℝ) ≤ 2 - 10737418 / 1073741824 / 2
    norm_num

/-- An overlap is not negative. -/
theorem plain_nonneg (h : Cert.Pre_valid_inputs.Good x a) (b : Fin 16) (n : Fin 20000) (o : Fin 128) : 0 ≤ plain x a b n o :=
  iou_nonneg _ _ (h.anchor_w n) (h.anchor_h n) (h.box_x b o) (h.box_y b o)

/-- The threshold one half is positive. -/
theorem half_pos' : (0 : EReal) < half := by
  have : half = ((1 / 2 : ℝ) : EReal) := by
    simp [half, Ideal.ofBits, Ideal.ieee]
    rw [← EReal.coe_mul]
    norm_num
  rw [this]
  exact EReal.coe_pos.2 (by norm_num)

/-- An index of a padded anchor is an anchor's or a padding one's. -/
theorem up_or (n : Fin 20352) : (∃ k : Fin 20000, n = up k) ∨ 20000 ≤ n.val := by
  by_cases h : n.val < 20000
  · exact .inl ⟨⟨n.val, h⟩, rfl⟩
  · exact .inr (by omega)

/-- The value of an anchor's index among the padded ones. -/
theorem up_val (n : Fin 20000) : (up n).val = n.val := rfl

/-- Padding keeps the anchors' order. -/
theorem up_le {j k : Fin 20000} (h : j ≤ k) : up j ≤ up k := by
  rw [Fin.le_def, up_val, up_val]
  exact Fin.le_def.1 h

/-- An anchor comes before the padding ones. -/
theorem up_le_pad (j : Fin 20000) {n : Fin 20352} (hn : 20000 ≤ n.val) : up j ≤ n := by
  rw [Fin.le_def, up_val]
  exact j.isLt.le.trans hn

/-- Padding keeps anchors apart. -/
theorem up_inj {j k : Fin 20000} : up j = up k ↔ j = k := by
  rw [Fin.ext_iff, up_val, up_val, Fin.ext_iff]

/-- An object's first greatest overlap over the padded anchors is that over the anchors. -/
theorem first_up (h : Cert.Pre_valid_inputs.Good x a) (b : Fin 16) (o : Fin 128) :
    (first fun n => table x a b n o) = up (first fun n => plain x a b n o) := by
  refine (eq_first _ _ (fun n => ?_) (fun n hn => ?_)).symm
  · rw [table_up]
    rcases up_or n with ⟨k, rfl⟩ | hn
    · rw [table_up]
      exact le_first (fun n => plain x a b n o) k
    · rw [table_pad h b n hn]
      exact plain_nonneg h b _ o
  · rcases up_or n with ⟨k, rfl⟩ | h'
    · rw [table_up, table_up] at hn
      exact up_le (first_le (fun n => plain x a b n o) k hn)
    · exact up_le_pad _ h'

/-- The best object of an anchor. -/
theorem best_up (b : Fin 16) (n : Fin 20000) : bestP (table x a) b (up n) = bestP (plain x a) b n := by
  unfold bestP
  simp only [table_up]

/-- The greatest overlap of an anchor. -/
theorem max_up (b : Fin 16) (n : Fin 20000) : maxP (table x a) b (up n) = maxP (plain x a) b n := by
  unfold maxP
  rw [best_up, table_up]

/-- Whether an anchor is matched. -/
theorem pos_up (h : Cert.Pre_valid_inputs.Good x a) (b : Fin 16) (n : Fin 20000) :
    posP (table x a) b (up n) = posP (plain x a) b n := by
  have h1 : anyP (table x a) b = anyP (plain x a) b := by
    unfold anyP
    refine propext ⟨fun ⟨n, o, ho⟩ => ?_, fun ⟨n, o, ho⟩ => ⟨up n, o, by rwa [table_up]⟩⟩
    rcases up_or n with ⟨k, rfl⟩ | hn
    · exact ⟨k, o, by rwa [table_up] at ho⟩
    · rw [table_pad h b n hn] at ho
      exact absurd (half_pos'.trans_le ho) (lt_irrefl _)
  have h2 : hitP (table x a) b (up n) = hitP (plain x a) b n := by
    unfold hitP
    refine propext (exists_congr fun o => ?_)
    rw [first_up h]
    exact up_inj
  unfold posP
  rw [h1, h2, max_up]

end Cert.KernelIdeal.Run
end
end
-- ==== Proof.RefRun.lean ====
module

public import proofs.«01_k».proof.Proof.Gen.ReferenceIdeal
public import Idealize.ShloMosaic.PureOps.Ideal
public import Idealize.ShloMosaic.Lib.Claim
public import Idealize.ShloMosaic.Lib.StableHlo.RunRead
public import Idealize.ShloMosaic.Lib.StableHlo.ReadAt

/-! The reference's run: its operations as one list, cut into stages, and what every buffer holds after them. -/

@[expose] public section
set_option maxRecDepth 16384
noncomputable section

namespace Cert.ReferenceIdeal.Run

open Idealize.ShloMosaic Idealize.SL.Sem Cert.ReferenceIdeal Cert.ReferenceIdeal.Gen

variable {Λ : Labels} {p q : Prog (TpuEff nD τ sig (Elt Ideal) Λ .tc) PUnit}

/-- One operation is the line of that operation. -/
theorem isSeq_one (op : HloOp τ sig (Elt Ideal)) :
    StableHlo.IsSeq (nD := nD) (Λ := Λ) (hlo rfl op fun _ => .ret (⟨⟩ : PUnit)) [op] := rfl

/-- Two lines in turn are the line of both lists. -/
theorem isSeq_both {l l' : List (HloOp τ sig (Elt Ideal))} (h : StableHlo.IsSeq p l) (h' : StableHlo.IsSeq q l') :
    StableHlo.IsSeq (p >>= fun _ => q) (l ++ l') := by
  unfold StableHlo.IsSeq at *
  rw [h, h', StableHlo.seq_append]

/-- The reference's operations in order, read off the printed program. -/
def line : {ops : List (HloOp τ sig (Elt Ideal)) // ∀ d, StableHlo.IsSeq (main (F := Ideal) d) ops} := by
  fapply Subtype.mk
  rotate_left
  · intro d
    unfold main main_part0 main_part1 main_part2
    repeat (first | exact StableHlo.IsSeq.nil | apply StableHlo.IsSeq.cons | exact isSeq_one _ | refine isSeq_both ?_ ?_)

/-- The operations up to the anchors as corners. -/
def opsA : List (HloOp τ sig (Elt Ideal)) := (line.1.drop 0).take 13
/-- The operations up to the sides of the intersections. -/
def opsB : List (HloOp τ sig (Elt Ideal)) := (line.1.drop 13).take 21
/-- The operations up to the overlaps. -/
def opsC : List (HloOp τ sig (Elt Ideal)) := (line.1.drop 34).take 35
/-- The operations up to the maxima over the objects and the objects they are reached at. -/
def opsD : List (HloOp τ sig (Elt Ideal)) := (line.1.drop 69).take 7
/-- The operations up to the values of the anchors that match nothing, the anchors over the threshold and each object's best anchor. -/
def opsJ : List (HloOp τ sig (Elt Ideal)) := (line.1.drop 76).take 31
/-- The operations up to the two disjunctions. -/
def opsE : List (HloOp τ sig (Elt Ideal)) := (line.1.drop 107).take 11
/-- The operations up to which anchors are matched. -/
def opsK : List (HloOp τ sig (Elt Ideal)) := (line.1.drop 118).take 2
/-- The operations up to the class targets and the anchor states. -/
def opsF : List (HloOp τ sig (Elt Ideal)) := (line.1.drop 120).take 27
/-- The operations up to the matched objects' boxes. -/
def opsG : List (HloOp τ sig (Elt Ideal)) := (line.1.drop 147).take 9
/-- The operations up to those boxes as centre and size. -/
def opsH : List (HloOp τ sig (Elt Ideal)) := (line.1.drop 156).take 10
/-- The operations up to the location targets. -/
def opsI : List (HloOp τ sig (Elt Ideal)) := (line.1.drop 166).take 22

/-- The stages in turn are the whole list. -/
theorem line_stages : line.1 = opsA ++ (opsB ++ (opsC ++ (opsD ++ (opsJ ++ (opsE ++ (opsK ++ (opsF ++ (opsG ++ (opsH ++ opsI))))))))) := by
  unfold opsA opsB opsC opsD opsJ opsE opsK opsF opsG opsH opsI line
  simp only [List.cons_append, List.nil_append, List.append_assoc, List.take_succ_cons, List.take_zero, List.drop_succ_cons, List.drop_zero, List.append_nil, List.take_nil]

/-- Every operation of the list works on the device's own buffers. -/
theorem line_bufs : line.1.Forall fun op => op.bufs ⊆ StableHlo.tcRefs τ sig := by
  unfold line
  simp only [List.cons_append, List.nil_append, List.append_assoc]
  simp

/-- No operation of the list leaves a buffer's contents open. -/
theorem line_fresh : ∀ op ∈ line.1, op.fresh = ∅ := by
  unfold line
  simp only [List.cons_append, List.nil_append, List.append_assoc]
  intro _ h; (repeat (cases h with | head => rfl | tail _ h => ?_)); exact nomatch h

/-- Every final state has each buffer at what the operations leave in it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = StableHlo.after line.1 (StableHlo.launchContents m d) (Proc.devRef .tc b) :=
  StableHlo.run_hlo _ _ line.2 (by decide) (by decide) line_bufs line_fresh m ρ

end Cert.ReferenceIdeal.Run
end
end
-- ==== Proof.Keep.lean ====
module

public import proofs.«01_k».proof.Proof.RefRun
public import proofs.«01_k».proof.Proof.Spec

/-! What each stage of the reference leaves alone, of the buffers read after it. -/

@[expose] public section
set_option maxRecDepth 16384
noncomputable section

namespace Cert.ReferenceIdeal.Run

open Idealize.ShloMosaic Idealize.ShloMosaic.Tactic Idealize.SL.Sem Cert.ReferenceIdeal Cert.ReferenceIdeal.Gen Cert.Ssd

variable (V : Valuation τ sig (Elt Ideal))

/-- The buffers that the reference's operations write, in order. -/
def wrote : List (Ref sig .tc) :=
  [main_v0, main_v1, main_cst, main_v2, main_v3, main_v4, main_v5, main_v6, main_cst_0, main_v7, main_v8, main_v9,
   main_v10, main_v11, main_v12, main_v13, main_v14, main_v15, main_v16, main_v17, main_v18, main_v19, main_v20,
   main_v21, main_v22, main_v23, main_v24, main_v25, main_v26, main_v27, main_cst_1, main_call0_v0, main_call0_v1,
   main_v28, main_v29, main_v30, main_v31, main_v32, main_v33, main_v34, main_v35, main_v36, main_v37, main_v38,
   main_v39, main_v40, main_v41, main_v42, main_v43, main_v44, main_v45, main_v46, main_v47, main_v48, main_v49,
   main_v50, main_v51, main_v52, main_v53, main_v54, main_v55, main_v56, main_v57, main_v58, main_v59, main_v60,
   main_v61, main_v62, main_v63, main_cst_2, main_v64, main_call1_v0, main_call1_cst, main_call1_c, main_call1_v1_0,
   main_v65, main_cst_3, main_v66, main_v67, main_cst_4, main_v68, main_v69, main_cst_5, main_v70, main_v71, main_v72,
   main_cst_6, main_call2_v0, main_call2_v1, main_call2_v2, main_call2_v3, main_call2_v4, main_v73, main_cst_7,
   main_call3_v0, main_call3_v1, main_call3_v2, main_call3_v3, main_v74, main_cst_8, main_v75, main_v76, main_call4_v0,
   main_call4_cst, main_call4_c, main_call4_v1_0, main_v77, main_v78, main_v79, main_v80, main_v81, main_v82, main_v83,
   main_v84, main_c, main_v85, main_c_9, main_v86, main_call5_v0, main_v87, main_c_10, main_v88, main_v89, main_c_11,
   main_v90, main_v91, main_v92, main_v93, main_v94, main_c_12, main_v95, main_v96, main_call6_v0, main_call6_v1,
   main_call6_v2, main_call6_v3, main_call6_v4, main_call6_v5, main_v97, main_v98, main_call7_v0, main_v99, main_cst_13,
   main_call8_v0, main_call8_v1, main_call8_v2, main_v100, main_c_14, main_v101, main_v102, main_c_15, main_v103,
   main_v104, main_v105, main_v106, main_v107, main_v108, main_v109, main_v110, main_cst_16, main_v111, main_v112,
   main_v113, main_v114, main_v115, main_v116, main_v117, main_v118, main_v119, main_v120, main_v121, main_v122,
   main_cst_17, main_v123, main_v124, main_v125, main_v126, main_v127, main_v128, main_v129, main_v130, main_v131,
   main_v132, main_v133, main_cst_18, main_v134, main_v135, main_v136]

/-- Each operation writes its own buffer and no other. -/
theorem line_writes : line.1.map HloOp.writes = wrote.map fun r => {Proc.devRef (τ := τ) .tc r} := by
  unfold line wrote
  simp only [List.cons_append, List.nil_append, List.append_assoc, List.map_cons, List.map_nil]
  simp

/-- A stretch of the operations leaves alone a buffer that it does not write. -/
theorem keep (i k : ℕ) {r : Ref sig .tc} (h : r ∉ (wrote.drop i).take k) :
    StableHlo.after ((line.1.drop i).take k) V (Proc.devRef .tc r) = V (Proc.devRef .tc r) :=
  StableHlo.after_of_writes_sub (W := (wrote.drop i).take k) _ V
    (StableHlo.forall_writes_sub_of_map (by simp only [List.map_take, List.map_drop, line_writes])) h

/-- Stage A leaves these buffers as they were. -/
theorem keepA :
    StableHlo.after opsA V (Proc.devRef .tc main_arg0) = V (Proc.devRef .tc main_arg0)
    ∧ StableHlo.after opsA V (Proc.devRef .tc main_arg1) = V (Proc.devRef .tc main_arg1)
    ∧ StableHlo.after opsA V (Proc.devRef .tc main_arg2) = V (Proc.devRef .tc main_arg2) :=
  ⟨keep V 0 13 (by decide), keep V 0 13 (by decide), keep V 0 13 (by decide)⟩

/-- Stage B leaves these buffers as they were. -/
theorem keepB :
    StableHlo.after opsB V (Proc.devRef .tc main_v10) = V (Proc.devRef .tc main_v10)
    ∧ StableHlo.after opsB V (Proc.devRef .tc main_arg0) = V (Proc.devRef .tc main_arg0)
    ∧ StableHlo.after opsB V (Proc.devRef .tc main_arg1) = V (Proc.devRef .tc main_arg1)
    ∧ StableHlo.after opsB V (Proc.devRef .tc main_arg2) = V (Proc.devRef .tc main_arg2) :=
  ⟨keep V 13 21 (by decide), keep V 13 21 (by decide), keep V 13 21 (by decide), keep V 13 21 (by decide)⟩

/-- Stage C leaves these buffers as they were. -/
theorem keepC :
    StableHlo.after opsC V (Proc.devRef .tc main_arg0) = V (Proc.devRef .tc main_arg0)
    ∧ StableHlo.after opsC V (Proc.devRef .tc main_arg1) = V (Proc.devRef .tc main_arg1)
    ∧ StableHlo.after opsC V (Proc.devRef .tc main_arg2) = V (Proc.devRef .tc main_arg2) :=
  ⟨keep V 34 35 (by decide), keep V 34 35 (by decide), keep V 34 35 (by decide)⟩

/-- Stage D leaves these buffers as they were. -/
theorem keepD :
    StableHlo.after opsD V (Proc.devRef .tc main_v63) = V (Proc.devRef .tc main_v63)
    ∧ StableHlo.after opsD V (Proc.devRef .tc main_arg0) = V (Proc.devRef .tc main_arg0)
    ∧ StableHlo.after opsD V (Proc.devRef .tc main_arg1) = V (Proc.devRef .tc main_arg1)
    ∧ StableHlo.after opsD V (Proc.devRef .tc main_arg2) = V (Proc.devRef .tc main_arg2) :=
  ⟨keep V 69 7 (by decide), keep V 69 7 (by decide), keep V 69 7 (by decide), keep V 69 7 (by decide)⟩

/-- Stage J leaves these buffers as they were. -/
theorem keepJ :
    StableHlo.after opsJ V (Proc.devRef .tc main_v65) = V (Proc.devRef .tc main_v65)
    ∧ StableHlo.after opsJ V (Proc.devRef .tc main_arg0) = V (Proc.devRef .tc main_arg0)
    ∧ StableHlo.after opsJ V (Proc.devRef .tc main_arg1) = V (Proc.devRef .tc main_arg1)
    ∧ StableHlo.after opsJ V (Proc.devRef .tc main_arg2) = V (Proc.devRef .tc main_arg2) :=
  ⟨keep V 76 31 (by decide), keep V 76 31 (by decide), keep V 76 31 (by decide), keep V 76 31 (by decide)⟩

/-- Stage E leaves these buffers as they were. -/
theorem keepE :
    StableHlo.after opsE V (Proc.devRef .tc main_v65) = V (Proc.devRef .tc main_v65)
    ∧ StableHlo.after opsE V (Proc.devRef .tc main_v73) = V (Proc.devRef .tc main_v73)
    ∧ StableHlo.after opsE V (Proc.devRef .tc main_v74) = V (Proc.devRef .tc main_v74)
    ∧ StableHlo.after opsE V (Proc.devRef .tc main_v76) = V (Proc.devRef .tc main_v76)
    ∧ StableHlo.after opsE V (Proc.devRef .tc main_arg0) = V (Proc.devRef .tc main_arg0)
    ∧ StableHlo.after opsE V (Proc.devRef .tc main_arg1) = V (Proc.devRef .tc main_arg1)
    ∧ StableHlo.after opsE V (Proc.devRef .tc main_arg2) = V (Proc.devRef .tc main_arg2) :=
  ⟨keep V 107 11 (by decide), keep V 107 11 (by decide), keep V 107 11 (by decide), keep V 107 11 (by decide),
    keep V 107 11 (by decide), keep V 107 11 (by decide), keep V 107 11 (by decide)⟩

/-- Stage K leaves these buffers as they were. -/
theorem keepK :
    StableHlo.after opsK V (Proc.devRef .tc main_v65) = V (Proc.devRef .tc main_v65)
    ∧ StableHlo.after opsK V (Proc.devRef .tc main_v73) = V (Proc.devRef .tc main_v73)
    ∧ StableHlo.after opsK V (Proc.devRef .tc main_v74) = V (Proc.devRef .tc main_v74)
    ∧ StableHlo.after opsK V (Proc.devRef .tc main_arg0) = V (Proc.devRef .tc main_arg0)
    ∧ StableHlo.after opsK V (Proc.devRef .tc main_arg1) = V (Proc.devRef .tc main_arg1)
    ∧ StableHlo.after opsK V (Proc.devRef .tc main_arg2) = V (Proc.devRef .tc main_arg2) :=
  ⟨keep V 118 2 (by decide), keep V 118 2 (by decide), keep V 118 2 (by decide), keep V 118 2 (by decide), keep V 118 2 (by decide), keep V 118 2 (by decide)⟩

/-- Stage F leaves these buffers as they were. -/
theorem keepF :
    StableHlo.after opsF V (Proc.devRef .tc main_v65) = V (Proc.devRef .tc main_v65)
    ∧ StableHlo.after opsF V (Proc.devRef .tc main_arg0) = V (Proc.devRef .tc main_arg0)
    ∧ StableHlo.after opsF V (Proc.devRef .tc main_arg1) = V (Proc.devRef .tc main_arg1)
    ∧ StableHlo.after opsF V (Proc.devRef .tc main_arg2) = V (Proc.devRef .tc main_arg2) :=
  ⟨keep V 120 27 (by decide), keep V 120 27 (by decide), keep V 120 27 (by decide), keep V 120 27 (by decide)⟩

/-- Stage G leaves these buffers as they were. -/
theorem keepG :
    StableHlo.after opsG V (Proc.devRef .tc main_v99) = V (Proc.devRef .tc main_v99)
    ∧ StableHlo.after opsG V (Proc.devRef .tc main_v100) = V (Proc.devRef .tc main_v100)
    ∧ StableHlo.after opsG V (Proc.devRef .tc main_arg0) = V (Proc.devRef .tc main_arg0)
    ∧ StableHlo.after opsG V (Proc.devRef .tc main_arg1) = V (Proc.devRef .tc main_arg1)
    ∧ StableHlo.after opsG V (Proc.devRef .tc main_arg2) = V (Proc.devRef .tc main_arg2) :=
  ⟨keep V 147 9 (by decide), keep V 147 9 (by decide), keep V 147 9 (by decide), keep V 147 9 (by decide), keep V 147 9 (by decide)⟩

/-- Stage H leaves these buffers as they were. -/
theorem keepH :
    StableHlo.after opsH V (Proc.devRef .tc main_v99) = V (Proc.devRef .tc main_v99)
    ∧ StableHlo.after opsH V (Proc.devRef .tc main_v100) = V (Proc.devRef .tc main_v100)
    ∧ StableHlo.after opsH V (Proc.devRef .tc main_arg0) = V (Proc.devRef .tc main_arg0)
    ∧ StableHlo.after opsH V (Proc.devRef .tc main_arg1) = V (Proc.devRef .tc main_arg1)
    ∧ StableHlo.after opsH V (Proc.devRef .tc main_arg2) = V (Proc.devRef .tc main_arg2) :=
  ⟨keep V 156 10 (by decide), keep V 156 10 (by decide), keep V 156 10 (by decide), keep V 156 10 (by decide), keep V 156 10 (by decide)⟩

/-- Stage I leaves these buffers as they were. -/
theorem keepI :
    StableHlo.after opsI V (Proc.devRef .tc main_v99) = V (Proc.devRef .tc main_v99)
    ∧ StableHlo.after opsI V (Proc.devRef .tc main_v100) = V (Proc.devRef .tc main_v100)
    ∧ StableHlo.after opsI V (Proc.devRef .tc main_arg0) = V (Proc.devRef .tc main_arg0)
    ∧ StableHlo.after opsI V (Proc.devRef .tc main_arg1) = V (Proc.devRef .tc main_arg1)
    ∧ StableHlo.after opsI V (Proc.devRef .tc main_arg2) = V (Proc.devRef .tc main_arg2) :=
  ⟨keep V 166 22 (by decide), keep V 166 22 (by decide), keep V 166 22 (by decide), keep V 166 22 (by decide), keep V 166 22 (by decide)⟩

end Cert.ReferenceIdeal.Run
end
end
-- ==== Proof.RefIou.lean ====
module

public import proofs.«01_k».proof.Proof.Keep
public import Idealize.ShloMosaic.PureOps.Ideal.Laws

/-! The reference's overlaps: the anchors' corners, the sides of the intersections, and their quotients by the unions. -/

@[expose] public section
set_option maxRecDepth 16384
noncomputable section

namespace Cert.ReferenceIdeal.Run

open Idealize.ShloMosaic Idealize.ShloMosaic.Tactic Idealize.SL.Sem Cert.ReferenceIdeal Cert.ReferenceIdeal.Gen Cert.Ssd

variable (V : Valuation τ sig (Elt Ideal))

/-- A box's coordinate. -/
abbrev boxAt (b : Fin 16) (o : Fin 128) (k : Fin 4) : EReal := (V (Proc.devRef .tc main_arg0) : FVec Ideal S16x128x4 .f32) (ix3 b o k)
/-- An anchor's entry. -/
abbrev ancAt (n : Fin 20000) (k : Fin 4) : EReal := (V (Proc.devRef .tc main_arg2) : FVec Ideal S20000x4 .f32) (ix2 n k)
/-- An anchor's corner coordinate. -/
abbrev cornerAt (n : Fin 20000) (k : Fin 4) : EReal := (V (Proc.devRef .tc main_v10) : FVec Ideal S20000x4 .f32) (ix2 n k)
/-- A side of an intersection. -/
abbrev sideAt (b : Fin 16) (n : Fin 20000) (o : Fin 128) (k : Fin 2) : EReal :=
  (V (Proc.devRef .tc main_v28) : FVec Ideal S16x20000x128x2 .f32) (ix4 b n o k)

/-- An anchor given by its centre and size, as corners. -/
def corner (a : Fin 4 → EReal) : Fin 4 → EReal :=
  ![a 0 - Ideal.div (a 2) two, a 1 - Ideal.div (a 3) two, a 0 + Ideal.div (a 2) two, a 1 + Ideal.div (a 3) two]

/-- The anchors' corners. -/
theorem readA (n : Fin 20000) (k : Fin 4) :
    (StableHlo.after opsA V (Proc.devRef .tc main_v10) : FVec Ideal S20000x4 .f32) (ix2 n k) = corner (ancAt V n) k := by
  unfold opsA line
  simp only [List.cons_append, List.nil_append, List.append_assoc, List.take_succ_cons, List.take_zero, List.drop_succ_cons,
    List.drop_zero]
  after_reads_at
  fin_cases k <;> rfl

/-- A side of the intersection of an anchor with a box. -/
theorem readB (b : Fin 16) (n : Fin 20000) (o : Fin 128) (k : Fin 2) :
    (StableHlo.after opsB V (Proc.devRef .tc main_v28) : FVec Ideal S16x20000x128x2 .f32) (ix4 b n o k) = max (0 : EReal)
      (min (cornerAt V n ⟨2 + k.val, by omega⟩) (boxAt V b o ⟨2 + k.val, by omega⟩)
        - max (cornerAt V n ⟨k.val, by omega⟩) (boxAt V b o ⟨k.val, by omega⟩)) := by
  unfold opsB line
  simp only [List.cons_append, List.nil_append, List.append_assoc, List.take_succ_cons, List.take_zero, List.drop_succ_cons,
    List.drop_zero]
  after_reads_at
  exact congrArg₂ max Ideal.ofBits_zero_f32 rfl

/-- The overlap of an anchor with a box, from the sides of their intersection. -/
theorem readC (b : Fin 16) (n : Fin 20000) (o : Fin 128) :
    (StableHlo.after opsC V (Proc.devRef .tc main_v63) : FVec Ideal S16x20000x128 .f32) (ix3 b n o) = Ideal.div (sideAt V b n o 0 * sideAt V b n o 1)
      ((cornerAt V n 2 - cornerAt V n 0) * (cornerAt V n 3 - cornerAt V n 1)
        + (boxAt V b o 2 - boxAt V b o 0) * (boxAt V b o 3 - boxAt V b o 1)
        - sideAt V b n o 0 * sideAt V b n o 1) := by
  unfold opsC line
  simp only [List.cons_append, List.nil_append, List.append_assoc, List.take_succ_cons, List.take_zero, List.drop_succ_cons,
    List.drop_zero]
  after_reads_at
  rfl

/-- The contents after the overlaps are formed. -/
abbrev V3 : Valuation τ sig (Elt Ideal) := StableHlo.after opsC (StableHlo.after opsB (StableHlo.after opsA V))

/-- The reference's overlap of anchor `n` with box `o` of batch `b`. -/
def real (b : Fin 16) (n : Fin 20000) (o : Fin 128) : EReal :=
  iou (ancAt V n) (boxAt V b o)

/-- After the third stage the overlaps lie in their buffer. -/
theorem iou_at (b : Fin 16) (n : Fin 20000) (o : Fin 128) : (V3 V (Proc.devRef .tc main_v63) : FVec Ideal S16x20000x128 .f32) (ix3 b n o) = real V b n o := by
  have h0 : StableHlo.after opsB (StableHlo.after opsA V) (Proc.devRef .tc main_arg0) = V (Proc.devRef .tc main_arg0) :=
    (keepB _).2.1.trans (keepA V).1
  have h1 : StableHlo.after opsB (StableHlo.after opsA V) (Proc.devRef .tc main_v10)
      = StableHlo.after opsA V (Proc.devRef .tc main_v10) := (keepB _).1
  have cA : ∀ k, cornerAt (StableHlo.after opsA V) n k = corner (ancAt V n) k := fun k => readA V n k
  have c : ∀ k, cornerAt (StableHlo.after opsB (StableHlo.after opsA V)) n k = corner (ancAt V n) k :=
    fun k => (congrFun h1 (ix2 n k)).trans (cA k)
  have xA : ∀ k, boxAt (StableHlo.after opsA V) b o k = boxAt V b o k := fun k => congrFun (keepA V).1 (ix3 b o k)
  have x : ∀ k, boxAt (StableHlo.after opsB (StableHlo.after opsA V)) b o k = boxAt V b o k := fun k => congrFun h0 (ix3 b o k)
  have s : ∀ k : Fin 2, sideAt (StableHlo.after opsB (StableHlo.after opsA V)) b n o k = _ := fun k => readB (StableHlo.after opsA V) b n o k
  refine (readC _ b n o).trans ?_
  rw [s 0, s 1, c, c, c, c, x, x, x, x, cA, cA, cA, cA, xA, xA, xA, xA]
  rfl

end Cert.ReferenceIdeal.Run
end
end
-- ==== Proof.ArgFirst.lean ====
module

public import proofs.«01_k».proof.Proof.Gen.ReferenceIdeal
public import proofs.«01_k».proof.Proof.Folds
public import Idealize.ShloMosaic.PureOps.Ideal
public import Idealize.ShloMosaic.PureOps.Ideal.Laws
public import Idealize.ShloMosaic.Lib.Claim
public import Idealize.ShloMosaic.Lib.StableHlo.ReadAt
public import Idealize.ShloMosaic.Lib.Routing.OpsOrder

/-! The reference's reductions over one axis: a maximum, an arg-max and a disjunction, each as what it says of the
entries along that axis. -/

@[expose] public section
set_option maxRecDepth 16384
noncomputable section

namespace Cert.ReferenceIdeal.Axis

open Idealize.ShloMosaic Idealize.ShloMosaic.Tactic Cert.ReferenceIdeal Cert.ReferenceIdeal.Gen Cert.Ssd

/-- A pair of a value and an index comes no later than another: a greater value, or an equal one at no greater index. -/
def Ahead (p q : EReal × BitVec 32) : Prop := q.1 < p.1 ∨ (p.1 = q.1 ∧ p.2.toInt ≤ q.2.toInt)

theorem Ahead.refl (p : EReal × BitVec 32) : Ahead p p := .inr ⟨rfl, le_rfl⟩

theorem Ahead.trans {p q r : EReal × BitVec 32} (h : Ahead p q) (h' : Ahead q r) : Ahead p r := by
  rcases h with h | ⟨h, i⟩ <;> rcases h' with h' | ⟨h', i'⟩
  · exact .inl (h'.trans h)
  · exact .inl (h' ▸ h)
  · exact .inl (h ▸ h')
  · exact .inr ⟨h.trans h', i.trans i'⟩

/-- The arg-max's body returns one of its two pairs, and that one is ahead of both. -/
theorem body_ahead (a b : EReal × BitVec 32) :
    (reducer_argmax_f32_i32 (F := Ideal) a b = a ∨ reducer_argmax_f32_i32 (F := Ideal) a b = b)
      ∧ Ahead (reducer_argmax_f32_i32 (F := Ideal) a b) a ∧ Ahead (reducer_argmax_f32_i32 (F := Ideal) a b) b := by
  obtain ⟨x, i⟩ := a
  obtain ⟨y, j⟩ := b
  have key : reducer_argmax_f32_i32 (F := Ideal) (x, i) (y, j)
      = if y < x then (x, i) else if x = y ∧ i.toInt < j.toInt then (x, i) else (y, j) := by
    unfold reducer_argmax_f32_i32
    have hs : IntOp.cmpi .slt i j = BitVec.ofBool (decide (i.toInt < j.toInt)) := by
      simp [IntOp.cmpi, BitVec.slt]
    simp only [hs]
    by_cases h1 : y < x
    · have hne : x ≠ y := fun e => absurd h1 (e ▸ lt_irrefl _)
      by_cases h3 : i.toInt < j.toInt <;>
      simp [FloatOps.cmpf, Ideal.cmp, Scalar.select, IntOp.ori, IntOp.andi, h1, hne, h3]
    · by_cases h2 : x = y
      · subst h2
        by_cases h3 : i.toInt < j.toInt <;>
        simp [FloatOps.cmpf, Ideal.cmp, Scalar.select, IntOp.ori, IntOp.andi, h3]
      · by_cases h3 : i.toInt < j.toInt <;>
        simp [FloatOps.cmpf, Ideal.cmp, Scalar.select, IntOp.ori, IntOp.andi, h1, h2, h3]
  rw [key]
  by_cases h1 : y < x
  · rw [if_pos h1]; exact ⟨.inl rfl, .refl _, .inl h1⟩
  · rw [if_neg h1]
    by_cases h2 : x = y ∧ i.toInt < j.toInt
    · rw [if_pos h2]; exact ⟨.inl rfl, .refl _, .inr ⟨h2.1, h2.2.le⟩⟩
    · rw [if_neg h2]
      refine ⟨.inr rfl, ?_, .refl _⟩
      rcases lt_or_eq_of_le (not_lt.1 h1) with h | h
      · exact .inl h
      · exact .inr ⟨h.symm, not_lt.1 fun h3 => h2 ⟨h, h3⟩⟩

/-- Folding the body over a list gives a pair of the list, or the initial one, that is ahead of them all. -/
theorem foldl_ahead (l : List (EReal × BitVec 32)) (p : EReal × BitVec 32) :
    l.foldl (reducer_argmax_f32_i32 (F := Ideal)) p ∈ p :: l
      ∧ ∀ q ∈ p :: l, Ahead (l.foldl (reducer_argmax_f32_i32 (F := Ideal)) p) q := by
  induction l generalizing p with
  | nil => exact ⟨List.mem_cons_self, fun q hq => by rw [List.mem_singleton.1 hq]; exact .refl _⟩
  | cons a l ih =>
    obtain ⟨hm, ha⟩ := ih (reducer_argmax_f32_i32 (F := Ideal) p a)
    obtain ⟨h1, h2, h3⟩ := body_ahead p a
    rw [List.foldl_cons]
    refine ⟨?_, fun q hq => ?_⟩
    · rcases List.mem_cons.1 hm with h | h
      · rcases h1 with e | e <;> rw [h, e] <;> simp
      · exact List.mem_cons_of_mem _ (List.mem_cons_of_mem _ h)
    · have hb := ha _ List.mem_cons_self
      rcases List.mem_cons.1 hq with rfl | hq
      · exact hb.trans h2
      · rcases List.mem_cons.1 hq with rfl | hq
        · exact hb.trans h3
        · exact ha q (List.mem_cons_of_mem _ hq)

/-- The reference's arg-max along a fibre is the first greatest entry's index. -/
theorem argReduce_first {s t u : Shape} {axes : List (Fin s.rank)} {n : ℕ} [NeZero n] (x : FVec Ideal s .f32)
    (y : s.Idx → BitVec 32) (ix : u.Idx → EReal) (iy : u.Idx → BitVec 32) (h : s.ReducesTo axes t) (hu : 0 < u.numel)
    (j : t.Idx) (emb : Fin n → s.Idx) (hemb : ∀ i, h.drop i = j ↔ ∃ k, emb k = i)
    (hy : ∀ k, y (emb k) = BitVec.ofNat 32 k.val) (hix : ix (Shape.Idx.first hu) = ⊥)
    (hiy : iy (Shape.Idx.first hu) = 0#32) (hn : n ≤ 2 ^ 30) :
    (Host.argReduce (F := Ideal) (φ := .f32) reducer_argmax_f32_i32 x y ix iy h hu j).2
      = BitVec.ofNat 32 (first fun k => x (emb k)).val := by
  rw [Ideal.argReduce_eq_reduce2, Host.reduce2_eq_foldl_fiber, hix, hiy]
  obtain ⟨hm, ha⟩ := foldl_ahead (Host.argReduceFiber x y h j) (⊥, 0#32)
  have hmem : ∀ p, p ∈ Host.argReduceFiber x y h j ↔ ∃ k : Fin n, p = (x (emb k), BitVec.ofNat 32 k.val) := by
    intro p
    rw [Host.argReduceFiber, List.mem_map]
    constructor
    · rintro ⟨i, hi, rfl⟩
      obtain ⟨k, hk⟩ := (hemb _).1 (by simpa using (List.mem_filter.1 hi).2)
      exact ⟨k, by rw [← hk, hy]⟩
    · rintro ⟨k, rfl⟩
      refine ⟨s.rowMajor (emb k), List.mem_filter.2 ⟨List.mem_finRange _, ?_⟩, ?_⟩
      · simpa using (hemb _).2 ⟨k, rfl⟩
      · simp [hy]
  have fin : ∀ k : Fin n, (∀ q ∈ (⊥, 0#32) :: Host.argReduceFiber x y h j, Ahead (x (emb k), BitVec.ofNat 32 k.val) q) →
      k = first fun k => x (emb k) := by
    intro k hk
    refine eq_first _ k (fun i => ?_) fun i hi => ?_
    · rcases hk _ (List.mem_cons_of_mem _ ((hmem _).2 ⟨i, rfl⟩)) with h | ⟨h, -⟩
      · exact h.le
      · exact h.ge
    · rcases hk _ (List.mem_cons_of_mem _ ((hmem _).2 ⟨i, rfl⟩)) with h | ⟨-, h⟩
      · exact absurd hi h.ne
      · have h1 := k.isLt
        have h2 := i.isLt
        rw [toInt_small (by omega), toInt_small (by omega)] at h
        exact Fin.le_def.2 (by omega)
  rcases List.mem_cons.1 hm with e | e
  · rw [e] at ha ⊢
    have h0 := (NeZero.pos n)
    have hb : x (emb ⟨0, h0⟩) = ⊥ := by
      rcases ha _ (List.mem_cons_of_mem _ ((hmem _).2 ⟨⟨0, h0⟩, rfl⟩)) with h | ⟨h, -⟩
      · exact absurd h not_lt_bot
      · exact h.symm
    rw [← fin ⟨0, h0⟩ (by rw [hb]; exact ha)]
  · obtain ⟨k, hk⟩ := (hmem _).1 e
    rw [hk] at ha ⊢
    rw [← fin k ha]

theorem reduces2 : S16x20000x128.Reduces [2] S16x20000 := by decide
theorem reduces1 : S16x20000x128.Reduces [1] S16x128 := by decide
theorem reducesB : S16x20000.Reduces [1] S16 := by decide

/-- An object put back into an index over batches and anchors. -/
theorem lift2 (b : Fin 16) (n : Fin 20000) (o : Fin 128) : reduces2.lift (ix2 b n) o = ix3 b n o :=
  funext fun c => Fin.ext ((reduces2.lift_val (ix2 b n) o c).trans (by fin_cases c <;> rfl))

/-- An anchor put back into an index over batches and objects. -/
theorem lift1 (b : Fin 16) (n : Fin 20000) (o : Fin 128) : reduces1.lift (ix2 b o) n = ix3 b n o :=
  funext fun c => Fin.ext ((reduces1.lift_val (ix2 b o) n c).trans (by fin_cases c <;> rfl))

/-- An anchor put back into an index over batches. -/
theorem liftB (b : Fin 16) (n : Fin 20000) : reducesB.lift (ix1 b) n = ix2 b n :=
  funext fun c => Fin.ext ((reducesB.lift_val (ix1 b) n c).trans (by fin_cases c <;> rfl))

/-- A disjunction over the anchors is one where some anchor's bit is. -/
theorem or_anchors (x : IVec S16x20000 1) (init : S_.Idx → BitVec 1) (h : S16x20000.ReducesTo [1] S16) (hu : 0 < S_.numel)
    (hi : init (Shape.Idx.first hu) = 0#1) (b : Fin 16) :
    Host.reduce IntOp.ori x init h hu (ix1 b) = 1#1 ↔ ∃ n, x (ix2 b n) = 1#1 := by
  rw [Host.reduce_eq_fold_single _ _ _ h reducesB, hi]
  refine (Routing.fold_ori _ _).trans ?_
  constructor
  · rintro ⟨n, -, hn⟩
    exact ⟨n, (congrArg x (liftB b n)).symm.trans hn⟩
  · rintro ⟨n, hn⟩
    exact ⟨n, Finset.mem_univ _, (congrArg x (liftB b n)).trans hn⟩

/-- A disjunction over the objects is one where some object's bit is. -/
theorem or_objects (x : IVec S16x20000x128 1) (init : S_.Idx → BitVec 1) (h : S16x20000x128.ReducesTo [2] S16x20000)
    (hu : 0 < S_.numel) (hi : init (Shape.Idx.first hu) = 0#1) (b : Fin 16) (n : Fin 20000) :
    Host.reduce IntOp.ori x init h hu (ix2 b n) = 1#1 ↔ ∃ o, x (ix3 b n o) = 1#1 := by
  rw [Host.reduce_eq_fold_single _ _ _ h reduces2, hi]
  refine (Routing.fold_ori _ _).trans ?_
  constructor
  · rintro ⟨o, -, ho⟩
    exact ⟨o, (congrArg x (lift2 b n o)).symm.trans ho⟩
  · rintro ⟨o, ho⟩
    exact ⟨o, Finset.mem_univ _, (congrArg x (lift2 b n o)).trans ho⟩

/-- The arg-max over the objects. -/
theorem arg_objects (x : FVec Ideal S16x20000x128 .f32) (h : S16x20000x128.ReducesTo [2] S16x20000) (hu : 0 < S_.numel)
    (b : Fin 16) (n : Fin 20000) :
    (Host.argReduce (F := Ideal) (φ := .f32) reducer_argmax_f32_i32 x (iotaInDim S16x20000x128 32 2)
      (constant S_ FTy.f32 4286578688#32) (constantI S_ 32 0#32) h hu (ix2 b n)).2
      = BitVec.ofNat 32 (first fun o => x (ix3 b n o)).val :=
  argReduce_first x _ _ _ h hu _ (fun o => ix3 b n o)
    (fun i => ⟨fun e => ⟨i 2, (lift2 b n (i 2)).symm.trans ((congrArg (fun j => reduces2.lift j (i 2)) e.symm).trans (reduces2.lift_drop i))⟩,
      fun ⟨k, hk⟩ => (congrArg h.drop (hk.symm.trans (lift2 b n k).symm)).trans (reduces2.drop_lift _ _)⟩)
    (fun _ => rfl) negInf rfl (by norm_num)

/-- The arg-max over the anchors. -/
theorem arg_anchors (x : FVec Ideal S16x20000x128 .f32) (h : S16x20000x128.ReducesTo [1] S16x128) (hu : 0 < S_.numel)
    (b : Fin 16) (o : Fin 128) :
    (Host.argReduce (F := Ideal) (φ := .f32) reducer_argmax_f32_i32 x (iotaInDim S16x20000x128 32 1)
      (constant S_ FTy.f32 4286578688#32) (constantI S_ 32 0#32) h hu (ix2 b o)).2
      = BitVec.ofNat 32 (first fun n => x (ix3 b n o)).val :=
  argReduce_first x _ _ _ h hu _ (fun n => ix3 b n o)
    (fun i => ⟨fun e => ⟨i 1, (lift1 b (i 1) o).symm.trans ((congrArg (fun j => reduces1.lift j (i 1)) e.symm).trans (reduces1.lift_drop i))⟩,
      fun ⟨k, hk⟩ => (congrArg h.drop (hk.symm.trans (lift1 b k o).symm)).trans (reduces1.drop_lift _ _)⟩)
    (fun _ => rfl) negInf rfl (by norm_num)

end Cert.ReferenceIdeal.Axis
end
end
-- ==== Proof.Gather.lean ====
module

public import proofs.«01_k».proof.Proof.ArgFirst

/-! The reference's gathers along the objects: an entry of the result is the operand's entry at the object that the
start index names. -/

@[expose] public section
set_option maxRecDepth 16384
noncomputable section

namespace Cert.ReferenceIdeal.Axis

open Idealize.ShloMosaic Idealize.ShloMosaic.Tactic Cert.ReferenceIdeal Cert.ReferenceIdeal.Gen Cert.Ssd

/-- The dimension numbers of the gather of labels. -/
abbrev dL := gather_S16x128_S16x20000x1_S16x20000_n_1_0_0_1_2_11
/-- The dimension numbers of the gather of boxes. -/
abbrev dB := gather_S16x128x4_S16x20000x1_S16x20000x4_2_1_0_0_1_2_114

/-- The labels gathered: entry `(b, n)` is the label of the object that the start index there names. -/
theorem gather_labels {α : Type} (x : S16x128.Idx → α) (idx : IVec S16x20000x1 32) (b : Fin 16) (n : Fin 20000) (o : Fin 128)
    (h : idx (ix3 b n 0) = BitVec.ofNat 32 o.val) : Host.gather dL x idx (ix2 b n) = x (ix2 b o) := by
  have ho := o.isLt
  refine congrArg x (funext fun a => Fin.ext ?_)
  match a with
  | ⟨0, _⟩ =>
    show dL.start (ix2 b n) idx 0 + dL.batchCoord (ix2 b n) 0 + dL.offCoord (ix2 b n) 0 = b.val
    rw [GatherDims.start_batching _ _ _ _ (List.mem_singleton.2 rfl),
      GatherDims.offCoord_eq_zero _ _ _ (fun h => ((GatherDims.mem_sKept _ _).1 h).2 (List.mem_singleton.2 rfl))]
    simp only [Nat.zero_add, Nat.add_zero]
    rfl
  | ⟨1, _⟩ =>
    show dL.start (ix2 b n) idx 1 + dL.batchCoord (ix2 b n) 1 + dL.offCoord (ix2 b n) 1 = o.val
    rw [GatherDims.batchCoord_eq_zero _ _ _ (by decide),
      GatherDims.offCoord_eq_zero _ _ _ (fun h => ((GatherDims.mem_sKept _ _).1 h).1 (List.mem_singleton.2 rfl))]
    simp only [Nat.add_zero]
    unfold GatherDims.start
    rw [dif_pos (show (1 : Fin 2) ∈ dL.startIndexMap from List.mem_singleton.2 rfl)]
    have hsi : dL.siIdx (ix2 b n) ⟨List.idxOf (1 : Fin 2) dL.startIndexMap,
        List.idxOf_lt_length_iff.2 (List.mem_singleton.2 rfl)⟩ = ix3 b n 0 := by
      funext c
      refine Fin.ext ?_
      match c with
      | ⟨0, _⟩ => rfl
      | ⟨1, _⟩ => rfl
      | ⟨2, _⟩ => rfl
    refine (congrArg (fun i => min (idx i).toInt.toNat (128 - 1)) hsi).trans ?_
    rw [h, toInt_small (by omega)]
    omega

/-- The boxes gathered: entry `(b, n, k)` is coordinate `k` of the box that the start index at `(b, n)` names. -/
theorem gather_boxes {α : Type} (x : S16x128x4.Idx → α) (idx : IVec S16x20000x1 32) (b : Fin 16) (n : Fin 20000)
    (k : Fin 4) (o : Fin 128) (h : idx (ix3 b n 0) = BitVec.ofNat 32 o.val) :
    Host.gather dB x idx (ix3 b n k) = x (ix3 b o k) := by
  have ho := o.isLt
  refine congrArg x (funext fun a => Fin.ext ?_)
  match a with
  | ⟨0, _⟩ =>
    show dB.start (ix3 b n k) idx 0 + dB.batchCoord (ix3 b n k) 0 + dB.offCoord (ix3 b n k) 0 = b.val
    rw [GatherDims.start_batching _ _ _ _ (List.mem_singleton.2 rfl),
      GatherDims.offCoord_eq_zero _ _ _ (fun h => ((GatherDims.mem_sKept _ _).1 h).2 (List.mem_singleton.2 rfl))]
    simp only [Nat.zero_add, Nat.add_zero]
    rfl
  | ⟨1, _⟩ =>
    show dB.start (ix3 b n k) idx 1 + dB.batchCoord (ix3 b n k) 1 + dB.offCoord (ix3 b n k) 1 = o.val
    rw [GatherDims.batchCoord_eq_zero _ _ _ (by decide),
      GatherDims.offCoord_eq_zero _ _ _ (fun h => ((GatherDims.mem_sKept _ _).1 h).1 (List.mem_singleton.2 rfl))]
    simp only [Nat.add_zero]
    unfold GatherDims.start
    rw [dif_pos (show (1 : Fin 3) ∈ dB.startIndexMap from List.mem_singleton.2 rfl)]
    have hsi : dB.siIdx (ix3 b n k) ⟨List.idxOf (1 : Fin 3) dB.startIndexMap,
        List.idxOf_lt_length_iff.2 (List.mem_singleton.2 rfl)⟩ = ix3 b n 0 := by
      funext c
      refine Fin.ext ?_
      match c with
      | ⟨0, _⟩ => rfl
      | ⟨1, _⟩ => rfl
      | ⟨2, _⟩ => rfl
    refine (congrArg (fun i => min (idx i).toInt.toNat (128 - 1)) hsi).trans ?_
    rw [h, toInt_small (by omega)]
    omega
  | ⟨2, _⟩ =>
    show dB.start (ix3 b n k) idx 2 + dB.batchCoord (ix3 b n k) 2 + dB.offCoord (ix3 b n k) 2 = k.val
    rw [GatherDims.batchCoord_eq_zero _ _ _ (by decide)]
    unfold GatherDims.start
    rw [dif_neg (by decide)]
    simp only [Nat.zero_add]
    rfl

/-- The start index the reference forms from an object's number (its wrap of negative ones does nothing). -/
theorem start_word (w : IVec S16x20000 32) (h0 : S_.BroadcastsInDim S16x20000 ![]) (h1 : S16x20000.BroadcastsInDim S16x20000x1 ![0, 1])
    (b : Fin 16) (n : Fin 20000) (o : Fin 128) (hw : w (ix2 b n) = BitVec.ofNat 32 o.val) :
    broadcastInDim S16x20000x1 ![0, 1] h1
      (select (cmpi CmpIPredicate.slt w (broadcastInDim S16x20000 ![] h0 (constantI S_ 32 0#32)))
        (addi w (broadcastInDim S16x20000 ![] h0 (constantI S_ 32 128#32))) w) (ix3 b n 0) = BitVec.ofNat 32 o.val := by
  pointwise
  rw [hw]
  have ho := o.isLt
  have hi : (BitVec.ofNat 32 o.val).toInt = o.val := toInt_small (by omega)
  have hs : IntOp.cmpi .slt (BitVec.ofNat 32 o.val) 0#32 = 0#1 := by
    simp only [IntOp.cmpi, BitVec.slt, hi]
    rw [decide_eq_false (by simp)]
    rfl
  rw [hs]
  rfl

end Cert.ReferenceIdeal.Axis
end
end
-- ==== Proof.RefMatch.lean ====
module

public import proofs.«01_k».proof.Proof.RefIou
public import proofs.«01_k».proof.Proof.Gather
public import proofs.«01_k».proof.Proof.Match
public import proofs.«01_k».proof.Proof.KernelB

/-! The reference's matching: from the overlaps to which anchors are matched and what the others get. -/

@[expose] public section
set_option maxRecDepth 16384
noncomputable section

namespace Cert.ReferenceIdeal.Run

open Idealize.ShloMosaic Idealize.ShloMosaic.Tactic Idealize.SL.Sem Cert.ReferenceIdeal Cert.ReferenceIdeal.Gen Cert.Ssd
open Cert.ReferenceIdeal.Axis

variable (V : Valuation τ sig (Elt Ideal))

/-- The overlaps the reference's buffer holds. -/
abbrev iouAt (b : Fin 16) (n : Fin 20000) (o : Fin 128) : EReal :=
  (V (Proc.devRef .tc main_v63) : FVec Ideal S16x20000x128 .f32) (ix3 b n o)
/-- The greatest overlap of an anchor. -/
abbrev topAt (b : Fin 16) (n : Fin 20000) : EReal := (V (Proc.devRef .tc main_v64) : FVec Ideal S16x20000 .f32) (ix2 b n)
/-- The number of an anchor's best object. -/
abbrev bestAt (b : Fin 16) (n : Fin 20000) : BitVec 32 := (V (Proc.devRef .tc main_v65) : IVec S16x20000 32) (ix2 b n)
/-- What an unmatched anchor's class targets are. -/
abbrev idleRowAt (b : Fin 16) (n : Fin 20000) (k : Fin 81) : EReal :=
  (V (Proc.devRef .tc main_v73) : FVec Ideal S16x20000x81 .f32) (ix3 b n k)
/-- What an unmatched anchor's identity is. -/
abbrev idleAt (b : Fin 16) (n : Fin 20000) : EReal := (V (Proc.devRef .tc main_v74) : FVec Ideal S16x20000 .f32) (ix2 b n)
/-- Whether an anchor's greatest overlap reaches the threshold. -/
abbrev overAt (b : Fin 16) (n : Fin 20000) : BitVec 1 := (V (Proc.devRef .tc main_v76) : IVec S16x20000 1) (ix2 b n)
/-- The number of an object's best anchor. -/
abbrev spotAt (b : Fin 16) (o : Fin 128) : BitVec 32 := (V (Proc.devRef .tc main_v77) : IVec S16x128 32) (ix2 b o)
/-- Whether an anchor is some object's best. -/
abbrev hitAt (b : Fin 16) (n : Fin 20000) : BitVec 1 := (V (Proc.devRef .tc main_v85) : IVec S16x20000 1) (ix2 b n)
/-- Whether some anchor of the batch reaches the threshold. -/
abbrev anyAt (b : Fin 16) : BitVec 1 := (V (Proc.devRef .tc main_v86) : IVec S16 1) (ix1 b)
/-- Whether an anchor is matched. -/
abbrev posAt (b : Fin 16) (n : Fin 20000) : BitVec 1 := (V (Proc.devRef .tc main_v87) : IVec S16x20000 1) (ix2 b n)

/-- The greatest overlaps. -/
theorem read_top (b : Fin 16) (n : Fin 20000) : topAt (StableHlo.after opsD V) b n = maxP (iouAt V) b n := by
  unfold topAt opsD line
  simp only [List.cons_append, List.nil_append, List.append_assoc, List.take_succ_cons, List.take_zero, List.drop_succ_cons,
    List.drop_zero]
  after_reads_at
  exact fold_max_eq _

/-- The best objects. -/
theorem read_best (b : Fin 16) (n : Fin 20000) :
    bestAt (StableHlo.after opsD V) b n = BitVec.ofNat 32 (bestP (iouAt V) b n).val := by
  unfold bestAt opsD line
  simp only [List.cons_append, List.nil_append, List.append_assoc, List.take_succ_cons, List.take_zero, List.drop_succ_cons,
    List.drop_zero]
  after_reads_at
  refine (arg_objects (V (Proc.devRef .tc main_v63)) _ _ b n).trans ?_
  unfold bestP
  rfl

/-- The value chosen for an unmatched anchor: zero below the lower threshold, and minus one otherwise. -/
theorem idle_select (x : EReal) (z : FVec Ideal S_ .f32) (hz : z ix0 = (0 : EReal)) :
    (if x < Ideal.ofBits FTy.f32 1053609165#32 then (id z ix0 : EReal) else -1) = idle x := by
  rw [id_eq, hz]
  rfl

/-- The unmatched anchors' class targets. -/
theorem read_idleRow (b : Fin 16) (n : Fin 20000) (k : Fin 81) :
    idleRowAt (StableHlo.after opsJ V) b n k = idle (topAt V b n) := by
  unfold idleRowAt opsJ line
  simp only [List.cons_append, List.nil_append, List.append_assoc, List.take_succ_cons, List.take_zero, List.drop_succ_cons,
    List.drop_zero]
  after_reads_at
  exact idle_select _ (constant S_ FTy.f32 0#32) Ideal.ofBits_zero_f32

/-- The unmatched anchors' identities. -/
theorem read_idle (b : Fin 16) (n : Fin 20000) : idleAt (StableHlo.after opsJ V) b n = idle (topAt V b n) := by
  unfold idleAt opsJ line
  simp only [List.cons_append, List.nil_append, List.append_assoc, List.take_succ_cons, List.take_zero, List.drop_succ_cons,
    List.drop_zero]
  after_reads_at
  exact idle_select _ (constant S_ FTy.f32 0#32) Ideal.ofBits_zero_f32

/-- The anchors over the threshold. -/
theorem read_over (b : Fin 16) (n : Fin 20000) : overAt (StableHlo.after opsJ V) b n = 1#1 ↔ half ≤ topAt V b n := by
  have e : overAt (StableHlo.after opsJ V) b n = BitVec.ofBool (decide (half ≤ topAt V b n)) := by
    unfold overAt opsJ line
    simp only [List.cons_append, List.nil_append, List.append_assoc, List.take_succ_cons, List.take_zero, List.drop_succ_cons,
      List.drop_zero]
    after_reads_at
  rw [e]
  exact Cert.KernelIdeal.B.ofBool_one _

/-- The objects' best anchors. -/
theorem read_spot (b : Fin 16) (o : Fin 128) :
    spotAt (StableHlo.after opsJ V) b o = BitVec.ofNat 32 (first fun n => iouAt V b n o).val := by
  unfold spotAt opsJ line
  simp only [List.cons_append, List.nil_append, List.append_assoc, List.take_succ_cons, List.take_zero, List.drop_succ_cons,
    List.drop_zero]
  after_reads_at
  exact arg_anchors _ _ _ b o

/-- The comparison of every anchor's number with every object's best anchor, at an entry. -/
theorem eq_entry (w : IVec S16x128 32) (h1 : S20000.BroadcastsInDim S20000x1 ![0]) (h2 : S20000x1.BroadcastsInDim S1x20000x1 ![1, 2])
    (h3 : S1x20000x1.BroadcastsInDim S16x20000x128 ![0, 1, 2]) (h4 : S16x128.BroadcastsInDim S16x1x128 ![0, 2])
    (h5 : S16x1x128.BroadcastsInDim S16x20000x128 ![0, 1, 2]) (b : Fin 16) (n : Fin 20000) (o : Fin 128) :
    cmpi CmpIPredicate.eq
        (broadcastInDim S16x20000x128 ![0, 1, 2] h3 (broadcastInDim S1x20000x1 ![1, 2] h2 (broadcastInDim S20000x1 ![0] h1 (iotaInDim S20000 32 0))))
        (broadcastInDim S16x20000x128 ![0, 1, 2] h5 (broadcastInDim S16x1x128 ![0, 2] h4 w)) (ix3 b n o) = 1#1
      ↔ BitVec.ofNat 32 n.val = w (ix2 b o) := by
  have e : cmpi CmpIPredicate.eq
        (broadcastInDim S16x20000x128 ![0, 1, 2] h3 (broadcastInDim S1x20000x1 ![1, 2] h2 (broadcastInDim S20000x1 ![0] h1 (iotaInDim S20000 32 0))))
        (broadcastInDim S16x20000x128 ![0, 1, 2] h5 (broadcastInDim S16x1x128 ![0, 2] h4 w)) (ix3 b n o)
      = IntOp.cmpi CmpIPredicate.eq (BitVec.ofNat 32 n.val) (w (ix2 b o)) := by
    pointwise
  rw [e]
  exact Cert.KernelIdeal.B.cmpi_eq_one _ _

/-- The anchors that are some object's best. -/
theorem read_hit (b : Fin 16) (n : Fin 20000) :
    hitAt (StableHlo.after opsE V) b n = 1#1 ↔ ∃ o, BitVec.ofNat 32 n.val = spotAt V b o := by
  obtain ⟨x, h1, h2⟩ : ∃ x : IVec S16x20000x128 1, hitAt (StableHlo.after opsE V) b n
        = Host.reduce IntOp.ori x (constantI S_ 1 0#1) reducesTo_S16x20000x128_S16x20000_d2 h_S_ (ix2 b n)
      ∧ ∀ o, x (ix3 b n o) = 1#1 ↔ BitVec.ofNat 32 n.val = spotAt V b o := by
    unfold hitAt opsE line
    simp only [List.cons_append, List.nil_append, List.append_assoc, List.take_succ_cons, List.take_zero, List.drop_succ_cons,
      List.drop_zero]
    refine ⟨_, ?_, eq_entry (V (Proc.devRef .tc main_v77)) bcast_S20000_S20000x1_0 bcast_S20000x1_S1x20000x1_1_2
      bcast_S1x20000x1_S16x20000x128_0_1_2 bcast_S16x128_S16x1x128_0_2 bcast_S16x1x128_S16x20000x128_0_1_2 b n⟩
    after_reads_at
  rw [h1, or_objects _ _ _ _ rfl]
  exact exists_congr h2

/-- Whether some anchor of a batch reaches the threshold. -/
theorem read_any (b : Fin 16) : anyAt (StableHlo.after opsE V) b = 1#1 ↔ ∃ n, overAt V b n = 1#1 := by
  have e : anyAt (StableHlo.after opsE V) b
      = Host.reduce IntOp.ori (V (Proc.devRef .tc main_v76)) (constantI S_ 1 0#1) reducesTo_S16x20000_S16_d1 h_S_ (ix1 b) := by
    unfold anyAt opsE line
    simp only [List.cons_append, List.nil_append, List.append_assoc, List.take_succ_cons, List.take_zero, List.drop_succ_cons,
      List.drop_zero]
    after_reads_at
  rw [e]
  exact or_anchors _ _ _ _ rfl b

/-- The matched anchors, from the three bits. -/
theorem read_pos (b : Fin 16) (n : Fin 20000) :
    posAt (StableHlo.after opsK V) b n = Scalar.select (anyAt V b) (overAt V b n) (hitAt V b n) := by
  unfold posAt opsK line
  simp only [List.cons_append, List.nil_append, List.append_assoc, List.take_succ_cons, List.take_zero, List.drop_succ_cons,
    List.drop_zero]
  after_reads_at

end Cert.ReferenceIdeal.Run
end
end
-- ==== Proof.RefResults.lean ====
module

public import proofs.«01_k».proof.Proof.RefMatch

/-! The reference's results, stage by stage: class targets, identities, and regression targets. -/

@[expose] public section
set_option maxRecDepth 16384
noncomputable section

namespace Cert.ReferenceIdeal.Run

open Idealize.ShloMosaic Idealize.ShloMosaic.Tactic Idealize.SL.Sem Cert.ReferenceIdeal Cert.ReferenceIdeal.Gen Cert.Ssd
open Cert.ReferenceIdeal.Axis

variable (V : Valuation τ sig (Elt Ideal))

/-- The label of an object. -/
abbrev labelAt (b : Fin 16) (o : Fin 128) : BitVec 32 := (V (Proc.devRef .tc main_arg1) : IVec S16x128 32) (ix2 b o)
/-- The class targets. -/
abbrev clsAt (b : Fin 16) (n : Fin 20000) (k : Fin 81) : EReal :=
  (V (Proc.devRef .tc main_v99) : FVec Ideal S16x20000x81 .f32) (ix3 b n k)
/-- The identities. -/
abbrev aidAt (b : Fin 16) (n : Fin 20000) : EReal := (V (Proc.devRef .tc main_v100) : FVec Ideal S16x20000 .f32) (ix2 b n)
/-- The box an anchor is compared with, as corners. -/
abbrev pickAt (b : Fin 16) (n : Fin 20000) (k : Fin 4) : EReal :=
  (V (Proc.devRef .tc main_v107) : FVec Ideal S16x20000x4 .f32) (ix3 b n k)
/-- The same box, as centre and size. -/
abbrev centreAt (b : Fin 16) (n : Fin 20000) (k : Fin 4) : EReal :=
  (V (Proc.devRef .tc main_v116) : FVec Ideal S16x20000x4 .f32) (ix3 b n k)
/-- The regression targets. -/
abbrev offAt (b : Fin 16) (n : Fin 20000) (k : Fin 4) : EReal :=
  (V (Proc.devRef .tc main_v136) : FVec Ideal S16x20000x4 .f32) (ix3 b n k)

/-- A bit read as an unsigned number. -/
theorem flag_unsigned (b : BitVec 1) : (FloatOps.uitofp FTy.f32 b : Ideal .f32) = flag (b = 1#1) := by
  rcases BitVec.eq_zero_or_eq_one b with h | h <;> subst h
  · simp [flag, FloatOps.uitofp]
  · simp [flag, FloatOps.uitofp]

/-- The class targets, where the best objects' numbers are known. -/
theorem read_cls (p : Fin 16 → Fin 20000 → Fin 128) (h : ∀ b n, bestAt V b n = BitVec.ofNat 32 (p b n).val)
    (b : Fin 16) (n : Fin 20000) (k : Fin 81) :
    clsAt (StableHlo.after opsF V) b n k
      = Scalar.select (posAt V b n) (flag (BitVec.ofNat 32 k.val = labelAt V b (p b n) + 1#32)) (idleRowAt V b n k) := by
  obtain ⟨idx, e, hi⟩ : ∃ idx : IVec S16x20000x1 32, clsAt (StableHlo.after opsF V) b n k
      = Scalar.select (posAt V b n) (FloatOps.uitofp (F := Ideal) FTy.f32 (IntOp.cmpi .eq (IntOp.addi
          (Host.gather dL (V (Proc.devRef .tc main_arg1) : IVec S16x128 32) idx (ix2 b n)) 1#32) (BitVec.ofNat 32 k.val)))
          (idleRowAt V b n k) ∧ idx (ix3 b n 0) = BitVec.ofNat 32 (p b n).val := by
    unfold clsAt opsF line
    simp only [List.cons_append, List.nil_append, List.append_assoc, List.take_succ_cons, List.take_zero, List.drop_succ_cons,
      List.drop_zero]
    refine ⟨_, ?_, start_word (V (Proc.devRef .tc main_v65)) bcast_S_S16x20000 bcast_S16x20000_S16x20000x1_0_1 b n (p b n) (h b n)⟩
    after_reads_at
  rw [e, gather_labels _ _ b n (p b n) hi, flag_unsigned, Cert.KernelIdeal.B.cmpi_eq_one]
  congr 2
  exact propext eq_comm

/-- The identities. -/
theorem read_aid (b : Fin 16) (n : Fin 20000) :
    aidAt (StableHlo.after opsF V) b n = Scalar.select (posAt V b n) (1 : EReal) (idleAt V b n) := by
  have e : aidAt (StableHlo.after opsF V) b n
      = Scalar.select (posAt V b n) ((id (constant S_ FTy.f32 1065353216#32) : FVec Ideal S_ .f32) ix0) (idleAt V b n) := by
    unfold aidAt opsF line
    simp only [List.cons_append, List.nil_append, List.append_assoc, List.take_succ_cons, List.take_zero, List.drop_succ_cons,
      List.drop_zero]
    after_reads_at
  rw [e]
  exact congrArg (fun z : EReal => Scalar.select (posAt V b n) z (idleAt V b n)) Ideal.ofBits_one_f32

/-- The boxes the anchors are compared with. -/
theorem read_pick (p : Fin 16 → Fin 20000 → Fin 128) (h : ∀ b n, bestAt V b n = BitVec.ofNat 32 (p b n).val)
    (b : Fin 16) (n : Fin 20000) (k : Fin 4) : pickAt (StableHlo.after opsG V) b n k = boxAt V b (p b n) k := by
  obtain ⟨idx, e, hi⟩ : ∃ idx : IVec S16x20000x1 32, pickAt (StableHlo.after opsG V) b n k
      = Host.gather dB (V (Proc.devRef .tc main_arg0) : FVec Ideal S16x128x4 .f32) idx (ix3 b n k)
        ∧ idx (ix3 b n 0) = BitVec.ofNat 32 (p b n).val := by
    unfold pickAt opsG line
    simp only [List.cons_append, List.nil_append, List.append_assoc, List.take_succ_cons, List.take_zero, List.drop_succ_cons,
      List.drop_zero]
    refine ⟨_, ?_, start_word (V (Proc.devRef .tc main_v65)) bcast_S_S16x20000 bcast_S16x20000_S16x20000x1_0_1 b n (p b n) (h b n)⟩
    after_reads_at
  rw [e]
  exact gather_boxes _ _ b n k (p b n) hi

/-- A box's centre and size from its corners. -/
def centre (c : Fin 4 → EReal) : Fin 4 → EReal :=
  ![Ideal.div (c 0 + c 2) two, Ideal.div (c 1 + c 3) two, c 2 - c 0, c 3 - c 1]

/-- The boxes as centres and sizes. -/
theorem read_centre (b : Fin 16) (n : Fin 20000) (k : Fin 4) :
    centreAt (StableHlo.after opsH V) b n k = centre (pickAt V b n) k := by
  unfold centreAt opsH line
  simp only [List.cons_append, List.nil_append, List.append_assoc, List.take_succ_cons, List.take_zero, List.drop_succ_cons,
    List.drop_zero]
  after_reads_at
  fin_cases k <;> rfl

/-- The offsets of a box (centre and size) from an anchor. -/
def offsets (a c : Fin 4 → EReal) : Fin 4 → EReal :=
  ![Ideal.div (c 0 - a 0) (Ideal.div (a 2) (Ideal.ofBits FTy.f32 1092616192#32)),
    Ideal.div (c 1 - a 1) (Ideal.div (a 3) (Ideal.ofBits FTy.f32 1092616192#32)),
    Ideal.log (Ideal.div (c 2) (a 2)) * Ideal.ofBits FTy.f32 1084227584#32,
    Ideal.log (Ideal.div (c 3) (a 3)) * Ideal.ofBits FTy.f32 1084227584#32]

/-- The regression targets. -/
theorem read_off (b : Fin 16) (n : Fin 20000) (k : Fin 4) :
    offAt (StableHlo.after opsI V) b n k = offsets (ancAt V n) (centreAt V b n) k := by
  unfold offAt opsI line
  simp only [List.cons_append, List.nil_append, List.append_assoc, List.take_succ_cons, List.take_zero, List.drop_succ_cons,
    List.drop_zero]
  after_reads_at
  fin_cases k <;> rfl

/-- The offsets from the centre and size are the regression targets. -/
theorem offsets_centre (a c : Fin 4 → EReal) : offsets a (centre c) = locOf a c := by
  funext k
  fin_cases k <;> rfl

end Cert.ReferenceIdeal.Run
end
end
-- ==== Proof.RefValue.lean ====
module

public import proofs.«01_k».proof.Proof.RefResults

/-! The reference's results as values: the class targets, the regression targets and the identities over its overlaps. -/

@[expose] public section
set_option maxRecDepth 16384
noncomputable section

namespace Cert.ReferenceIdeal.Run

open Idealize.ShloMosaic Idealize.ShloMosaic.Tactic Idealize.SL.Sem Cert.ReferenceIdeal Cert.ReferenceIdeal.Gen Cert.Ssd

variable (V : Valuation τ sig (Elt Ideal))

/-- The contents after the stages up to the named one. -/
abbrev VD : Valuation τ sig (Elt Ideal) := StableHlo.after opsD (V3 V)
@[inherit_doc VD] abbrev VJ : Valuation τ sig (Elt Ideal) := StableHlo.after opsJ (VD V)
@[inherit_doc VD] abbrev VE : Valuation τ sig (Elt Ideal) := StableHlo.after opsE (VJ V)
@[inherit_doc VD] abbrev VK : Valuation τ sig (Elt Ideal) := StableHlo.after opsK (VE V)
@[inherit_doc VD] abbrev VF : Valuation τ sig (Elt Ideal) := StableHlo.after opsF (VK V)
@[inherit_doc VD] abbrev VG : Valuation τ sig (Elt Ideal) := StableHlo.after opsG (VF V)
@[inherit_doc VD] abbrev VH : Valuation τ sig (Elt Ideal) := StableHlo.after opsH (VG V)
@[inherit_doc VD] abbrev VI : Valuation τ sig (Elt Ideal) := StableHlo.after opsI (VH V)

/-- The whole line is its stages in turn. -/
theorem after_line : StableHlo.after line.1 V = VI V := by
  rw [line_stages]
  simp only [StableHlo.after_append]

/-- The arguments before the matching. -/
theorem args3 : V3 V (Proc.devRef .tc main_arg0) = V (Proc.devRef .tc main_arg0)
    ∧ V3 V (Proc.devRef .tc main_arg1) = V (Proc.devRef .tc main_arg1)
    ∧ V3 V (Proc.devRef .tc main_arg2) = V (Proc.devRef .tc main_arg2) := by
  obtain ⟨a0, a1, a2⟩ := keepA V
  obtain ⟨-, b0, b1, b2⟩ := keepB (StableHlo.after opsA V)
  obtain ⟨c0, c1, c2⟩ := keepC (StableHlo.after opsB (StableHlo.after opsA V))
  exact ⟨c0.trans (b0.trans a0), c1.trans (b1.trans a1), c2.trans (b2.trans a2)⟩

/-- The arguments after the matching. -/
theorem argsK : VK V (Proc.devRef .tc main_arg0) = V (Proc.devRef .tc main_arg0)
    ∧ VK V (Proc.devRef .tc main_arg1) = V (Proc.devRef .tc main_arg1)
    ∧ VK V (Proc.devRef .tc main_arg2) = V (Proc.devRef .tc main_arg2) := by
  obtain ⟨a0, a1, a2⟩ := args3 V
  obtain ⟨-, b0, b1, b2⟩ := keepD (V3 V)
  obtain ⟨-, c0, c1, c2⟩ := keepJ (VD V)
  obtain ⟨-, -, -, -, d0, d1, d2⟩ := keepE (VJ V)
  obtain ⟨-, -, -, e0, e1, e2⟩ := keepK (VE V)
  exact ⟨e0.trans (d0.trans (c0.trans (b0.trans a0))), e1.trans (d1.trans (c1.trans (b1.trans a1))),
    e2.trans (d2.trans (c2.trans (b2.trans a2)))⟩

/-- The arguments before the regression targets. -/
theorem argsH : VF V (Proc.devRef .tc main_arg0) = V (Proc.devRef .tc main_arg0)
    ∧ VH V (Proc.devRef .tc main_arg2) = V (Proc.devRef .tc main_arg2) := by
  obtain ⟨a0, -, a2⟩ := argsK V
  obtain ⟨-, b0, -, b2⟩ := keepF (VK V)
  obtain ⟨-, -, -, -, c2⟩ := keepG (VF V)
  obtain ⟨-, -, -, -, d2⟩ := keepH (VG V)
  exact ⟨b0.trans a0, d2.trans (c2.trans (b2.trans a2))⟩

/-- The arguments at the end. -/
theorem argsI : VI V (Proc.devRef .tc main_arg0) = V (Proc.devRef .tc main_arg0)
    ∧ VI V (Proc.devRef .tc main_arg1) = V (Proc.devRef .tc main_arg1)
    ∧ VI V (Proc.devRef .tc main_arg2) = V (Proc.devRef .tc main_arg2) := by
  obtain ⟨a0, a1, a2⟩ := argsK V
  obtain ⟨-, b0, b1, b2⟩ := keepF (VK V)
  obtain ⟨-, -, c0, c1, c2⟩ := keepG (VF V)
  obtain ⟨-, -, d0, d1, d2⟩ := keepH (VG V)
  obtain ⟨-, -, e0, e1, e2⟩ := keepI (VH V)
  exact ⟨e0.trans (d0.trans (c0.trans (b0.trans a0))), e1.trans (d1.trans (c1.trans (b1.trans a1))),
    e2.trans (d2.trans (c2.trans (b2.trans a2)))⟩

/-- The overlaps the matching starts from. -/
theorem iou3 : iouAt (V3 V) = real V := funext fun b => funext fun n => funext fun o => iou_at V b n o

/-- The overlaps the second half of the matching reads. -/
theorem iouD : iouAt (VD V) = real V :=
  funext fun b => funext fun n => funext fun o => (congrFun (keepD (V3 V)).1 (ix3 b n o)).trans (iou_at V b n o)

/-- The greatest overlaps. -/
theorem topD (b : Fin 16) (n : Fin 20000) : topAt (VD V) b n = maxP (real V) b n := by
  have h := read_top (V3 V) b n
  rw [iou3] at h
  exact h

/-- The best objects, as the class targets read them. -/
theorem bestK (b : Fin 16) (n : Fin 20000) : bestAt (VK V) b n = BitVec.ofNat 32 (bestP (real V) b n).val := by
  have h := read_best (V3 V) b n
  rw [iou3] at h
  exact (congrFun ((keepK (VE V)).1.trans ((keepE (VJ V)).1.trans (keepJ (VD V)).1)) (ix2 b n)).trans h

/-- The best objects, as the regression targets read them. -/
theorem bestF (b : Fin 16) (n : Fin 20000) : bestAt (VF V) b n = BitVec.ofNat 32 (bestP (real V) b n).val :=
  (congrFun (keepF (VK V)).1 (ix2 b n)).trans (bestK V b n)

/-- What unmatched anchors get in their class targets. -/
theorem idleRowK (b : Fin 16) (n : Fin 20000) (k : Fin 81) : idleRowAt (VK V) b n k = idle (maxP (real V) b n) := by
  have h := read_idleRow (VD V) b n k
  rw [topD] at h
  exact (congrFun ((keepK (VE V)).2.1.trans (keepE (VJ V)).2.1) (ix3 b n k)).trans h

/-- What unmatched anchors get as identity. -/
theorem idleK (b : Fin 16) (n : Fin 20000) : idleAt (VK V) b n = idle (maxP (real V) b n) := by
  have h := read_idle (VD V) b n
  rw [topD] at h
  exact (congrFun ((keepK (VE V)).2.2.1.trans (keepE (VJ V)).2.2.1) (ix2 b n)).trans h

/-- The anchors over the threshold. -/
theorem overJ (b : Fin 16) (n : Fin 20000) : overAt (VJ V) b n = 1#1 ↔ half ≤ maxP (real V) b n := by
  have h := read_over (VD V) b n
  rw [topD] at h
  exact h

/-- The anchors over the threshold, one stage on. -/
theorem overE (b : Fin 16) (n : Fin 20000) : overAt (VE V) b n = 1#1 ↔ half ≤ maxP (real V) b n := by
  have h : overAt (VE V) b n = overAt (VJ V) b n := congrFun (keepE (VJ V)).2.2.2.1 (ix2 b n)
  rw [h]
  exact overJ V b n

/-- Whether some anchor reaches the threshold. -/
theorem anyE (b : Fin 16) : anyAt (VE V) b = 1#1 ↔ anyP (real V) b := by
  rw [read_any]
  unfold anyP
  refine exists_congr fun n => (overJ V b n).trans ⟨fun h => ⟨_, h⟩, fun ⟨o, h⟩ => h.trans ?_⟩
  exact le_first (fun o => real V b n o) o

/-- The anchors that are some object's best. -/
theorem hitE (b : Fin 16) (n : Fin 20000) : hitAt (VE V) b n = 1#1 ↔ hitP (real V) b n := by
  rw [read_hit]
  unfold hitP
  refine exists_congr fun o => ?_
  have h := read_spot (VD V) b o
  rw [iouD] at h
  have h1 := n.isLt
  have h2 := (first fun n => real V b n o).isLt
  rw [h, Cert.KernelIdeal.B.ofNat_inj (by omega) (by omega)]
  exact ⟨fun e => (Fin.ext e).symm, fun e => (congrArg Fin.val e).symm⟩

open Classical in
/-- A choice by a bit is a choice by what the bit says. -/
theorem select_bit {α : Type} {c : BitVec 1} {p : Prop} (h : c = 1#1 ↔ p) (x y : α) : Scalar.select c x y = if p then x else y := by
  rcases BitVec.eq_zero_or_eq_one c with e | e <;> subst e
  · rw [if_neg fun hp => absurd (h.2 hp) (by decide)]
    rfl
  · rw [if_pos (h.1 rfl)]
    rfl

/-- The matched anchors. -/
theorem posK (b : Fin 16) (n : Fin 20000) : posAt (VK V) b n = 1#1 ↔ posP (real V) b n := by
  rw [read_pos, select_bit (anyE V b)]
  unfold posP Pos
  by_cases h : anyP (real V) b
  · rw [if_pos h, overE]
    tauto
  · rw [if_neg h, hitE]
    tauto

/-- The reference's class targets. -/
theorem value_cls (b : Fin 16) (n : Fin 20000) (k : Fin 81) :
    clsAt (VI V) b n k = clsOf (posP (real V) b n) (maxP (real V) b n) (labelAt V b (bestP (real V) b n)) k.val := by
  have h : clsAt (VI V) b n k = clsAt (VF V) b n k :=
    congrFun ((keepI (VH V)).1.trans ((keepH (VG V)).1.trans (keepG (VF V)).1)) (ix3 b n k)
  have l : labelAt (VK V) b (bestP (real V) b n) = labelAt V b (bestP (real V) b n) := congrFun (argsK V).2.1 _
  rw [h, read_cls (VK V) (bestP (real V)) (bestK V), select_bit (posK V b n), idleRowK, l]
  rfl

/-- The reference's identities. -/
theorem value_aid (b : Fin 16) (n : Fin 20000) :
    aidAt (VI V) b n = aidOf (posP (real V) b n) (maxP (real V) b n) := by
  have h : aidAt (VI V) b n = aidAt (VF V) b n :=
    congrFun ((keepI (VH V)).2.1.trans ((keepH (VG V)).2.1.trans (keepG (VF V)).2.1)) (ix2 b n)
  rw [h, read_aid, select_bit (posK V b n), idleK]
  rfl

/-- The reference's regression targets. -/
theorem value_loc (b : Fin 16) (n : Fin 20000) (k : Fin 4) :
    offAt (VI V) b n k = locOf (ancAt V n) (boxAt V b (bestP (real V) b n)) k := by
  have a : ancAt (VH V) n = ancAt V n := funext fun k => congrFun (argsH V).2 (ix2 n k)
  have x : ∀ k, boxAt (VF V) b (bestP (real V) b n) k = boxAt V b (bestP (real V) b n) k := fun k => congrFun (argsH V).1 _
  have p : pickAt (VG V) b n = boxAt V b (bestP (real V) b n) :=
    funext fun k => (read_pick (VF V) (bestP (real V)) (bestF V) b n k).trans (x k)
  have c : centreAt (VH V) b n = centre (boxAt V b (bestP (real V) b n)) :=
    funext fun k => (read_centre (VG V) b n k).trans (congrArg (fun f => centre f k) p)
  rw [read_off, a, c, offsets_centre]

end Cert.ReferenceIdeal.Run
end
end
-- ==== Proof.Agree.lean ====
module

public import proofs.«01_k».proof.Proof.Tie
public import proofs.«01_k».proof.Proof.RefValue

/-! On good inputs the reference's results are the kernel's. -/

@[expose] public section
set_option maxRecDepth 16384
noncomputable section

namespace Cert.Proof

open Idealize.ShloMosaic Idealize.SL.Sem Cert.Ssd
open Cert.KernelIdeal.Run (boxes labels anchors plain padded_up best_up max_up pos_up)
open Cert.KernelIdeal.Gen (W4)

variable (m : (ℓ : Loc Cert.KernelIdeal.nD Cert.KernelIdeal.τ Cert.KernelIdeal.sig) → Buf (Elt Ideal) ℓ)
  (g : Dev Cert.KernelIdeal.nD → PrngReg)
  (V : Valuation Cert.ReferenceIdeal.τ Cert.ReferenceIdeal.sig (Elt Ideal)) (c : Dev Cert.KernelIdeal.nD)

/-- The reference begins from the kernel's arguments. -/
structure Same : Prop where
  box : (V (Proc.devRef .tc Cert.ReferenceIdeal.main_arg0) : FVec Ideal Cert.ReferenceIdeal.S16x128x4 .f32) = boxes m c
  label : (V (Proc.devRef .tc Cert.ReferenceIdeal.main_arg1) : IVec Cert.ReferenceIdeal.S16x128 32) = labels m c
  anchor : (V (Proc.devRef .tc Cert.ReferenceIdeal.main_arg2) : FVec Ideal Cert.ReferenceIdeal.S20000x4 .f32) = anchors m c

variable {m V c} (s : Same m V c) (h : Cert.Pre_valid_inputs.Good (boxes m c) (anchors m c))

include s in
/-- The reference's overlaps are those of the kernel's arguments. -/
theorem real_eq : Cert.ReferenceIdeal.Run.real V = plain (boxes m c) (anchors m c) := by
  funext b n o
  have hx : Cert.ReferenceIdeal.Run.boxAt V b o = fun k => boxes m c (ix3 b o k) := funext fun k => congrFun s.box _
  have ha : Cert.ReferenceIdeal.Run.ancAt V n = fun k => anchors m c (ix2 n k) := funext fun k => congrFun s.anchor _
  unfold Cert.ReferenceIdeal.Run.real plain
  rw [hx, ha]

include s h in
/-- The class targets agree. -/
theorem agree_cls (b : Fin 16) (n : Fin 20000) (k : Fin 81) :
    Cert.ReferenceIdeal.Run.clsAt (Cert.ReferenceIdeal.Run.VI V) b n k
      = (W4 m g c (Proc.devRef .tc Cert.KernelIdeal.main_v8) : FVec Ideal Cert.KernelIdeal.S16x20000x81 .f32) (ix3 b n k) := by
  refine (Cert.ReferenceIdeal.Run.value_cls V b n k).trans (Eq.trans ?_ (Cert.KernelIdeal.Run.value_cls m g c b n k).symm)
  have l : ∀ o, Cert.ReferenceIdeal.Run.labelAt V b o = labels m c (ix2 b o) := fun o => congrFun s.label _
  rw [real_eq s, pos_up h, max_up, best_up, l]

include s h in
/-- The identities agree. -/
theorem agree_aid (b : Fin 16) (n : Fin 20000) :
    Cert.ReferenceIdeal.Run.aidAt (Cert.ReferenceIdeal.Run.VI V) b n
      = (W4 m g c (Proc.devRef .tc Cert.KernelIdeal.main_v10) : FVec Ideal Cert.KernelIdeal.S16x20000 .f32) (ix2 b n) := by
  refine (Cert.ReferenceIdeal.Run.value_aid V b n).trans (Eq.trans ?_ (Cert.KernelIdeal.Run.value_aid m g c b n).symm)
  rw [real_eq s, pos_up h, max_up]

include s in
/-- The regression targets agree. -/
theorem agree_loc (b : Fin 16) (n : Fin 20000) (k : Fin 4) :
    Cert.ReferenceIdeal.Run.offAt (Cert.ReferenceIdeal.Run.VI V) b n k
      = (W4 m g c (Proc.devRef .tc Cert.KernelIdeal.main_v9) : FVec Ideal Cert.KernelIdeal.S16x20000x4 .f32) (ix3 b n k) := by
  refine (Cert.ReferenceIdeal.Run.value_loc V b n k).trans (Eq.trans ?_ (Cert.KernelIdeal.Run.value_loc m g c b n k).symm)
  have hx : ∀ o, Cert.ReferenceIdeal.Run.boxAt V b o = fun k => boxes m c (ix3 b o k) := fun o => funext fun k => congrFun s.box _
  have ha : Cert.ReferenceIdeal.Run.ancAt V n = fun k => anchors m c (ix2 n k) := funext fun k => congrFun s.anchor _
  rw [real_eq s, best_up, padded_up, hx, ha]

end Cert.Proof
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.ReferenceIdeal.Run (after_line argsI VI)

/-- The reference's run: its arguments end unchanged and its results are the last stage's. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ (d : Dev Cert.ReferenceIdeal.nD) (b : Ref Cert.ReferenceIdeal.sig .tc),
        r.2.mem ((d.tc : Thread Cert.ReferenceIdeal.nD Cert.ReferenceIdeal.τ).loc b)
          = VI (StableHlo.launchContents m d) (Proc.devRef .tc b) :=
  (θ_run Cert.ReferenceIdeal.defs _ _).mono (fun r h d b => (h d b).trans (congrFun (after_line _) _))
    (Cert.ReferenceIdeal.Run.run m g)

/-- The reference's frame. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c =>
      ⟨(h c _).trans (argsI _).1, (h c _).trans (argsI _).2.1, (h c _).trans (argsI _).2.2⟩,
      Idealize.ShloMosaic.sem_eq_zero_of_no_sems (by decide) r.2⟩)
    (reference_run m g)

/-- Kernel and reference compute the same three results on the inputs of the precondition. -/
theorem algebraic [Cert.Pre_valid_inputs.Facts] : Cert.algebraic_KernelIdeal_ReferenceIdeal_pre_valid_inputs := by
  intro m g m' g' hpre hagree
  refine ⟨fun c => Cert.KernelIdeal.Gen.W4 m g c (Proc.devRef .tc Cert.KernelIdeal.main_v8),
    fun c => Cert.KernelIdeal.Gen.W4 m g c (Proc.devRef .tc Cert.KernelIdeal.main_v9),
    fun c => Cert.KernelIdeal.Gen.W4 m g c (Proc.devRef .tc Cert.KernelIdeal.main_v10),
    Cert.KernelIdeal.Run.run m g, ?_⟩
  refine (θ_run Cert.ReferenceIdeal.defs _ _).mono (fun r h c => ?_) (reference_run m' g')
  have s : Same m (StableHlo.launchContents m' c) c := ⟨(hagree c).1, (hagree c).2.1, (hagree c).2.2⟩
  have good := Cert.Pre_valid_inputs.good _ _ _ (hpre c)
  refine ⟨(h c _).trans (funext fun i => ?_), (h c _).trans (funext fun i => ?_), (h c _).trans (funext fun i => ?_),
    (h c _).trans (argsI _).1, (h c _).trans (argsI _).2.1, (h c _).trans (argsI _).2.2⟩
  · idx_vars i
    exact agree_cls g s good _ _ _
  · idx_vars i
    exact agree_loc g s _ _ _
  · idx_vars i
    exact agree_aid g s good _ _

/-- The certificate's claim: the frames, the idealization and the equality of all three results. -/
theorem claim : Cert.Claim :=
  haveI := Cert.Pre_valid_inputs.shapes
  ⟨Cert.Kernel.Gen.facts, Cert.KernelIdeal.Gen.facts, Cert.ReferenceIdeal.Gen.facts, Cert.Pre_valid_inputs.shapes,
    fun m g _ => Cert.Kernel.Gen.frame m g, fun m g _ => Cert.KernelIdeal.Gen.frame m g, fun m g _ => Cert.KernelIdeal.Gen.frame m g,
    fun m g _ => reference_frame m g, fun m g _ => reference_frame m g, trivial, algebraic⟩

end Cert.Proof

end
